-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x50x128 : Shape := ⟨3, ![2048, 50, 128]⟩
abbrev S2048x64 : Shape := ⟨2, ![2048, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S50x2048x128 : Shape := ⟨3, ![50, 2048, 128]⟩
abbrev S1x256 : Shape := ⟨2, ![1, 256]⟩
abbrev S1x64 : Shape := ⟨2, ![1, 64]⟩
abbrev S50x2048x64 : Shape := ⟨3, ![50, 2048, 64]⟩
abbrev S1x1024x128 : Shape := ⟨3, ![1, 1024, 128]⟩
abbrev S1x1024x64 : Shape := ⟨3, ![1, 1024, 64]⟩
abbrev S1024x128 : Shape := ⟨2, ![1024, 128]⟩
abbrev S1024x256 : Shape := ⟨2, ![1024, 256]⟩
abbrev S1024x64 : Shape := ⟨2, ![1024, 64]⟩
abbrev S50x64x2048 : Shape := ⟨3, ![50, 64, 2048]⟩
abbrev S64x1 : Shape := ⟨2, ![64, 1]⟩
abbrev S64x2048 : Shape := ⟨2, ![64, 2048]⟩
abbrev S256x1 : Shape := ⟨2, ![256, 1]⟩
abbrev S256x2048 : Shape := ⟨2, ![256, 2048]⟩
abbrev S50 : Shape := ⟨1, ![50]⟩
abbrev S_ : Shape := ⟨0, ![]⟩
abbrev S1x1 : Shape := ⟨2, ![1, 1]⟩
abbrev S1x64x2048 : Shape := ⟨3, ![1, 64, 2048]⟩
abbrev S64x64x2048 : Shape := ⟨3, ![64, 64, 2048]⟩
abbrev S1 : Shape := ⟨1, ![1]⟩
abbrev S32x2048 : Shape := ⟨2, ![32, 2048]⟩
abbrev S1x2048 : Shape := ⟨2, ![1, 2048]⟩
abbrev S2048 : Shape := ⟨1, ![2048]⟩

abbrev nBuf : Space → Nat
  | .hbm => 53
  | .vmem => 26
  | .smem => 2
  | _ => 0

abbrev bufTy : (tb : Table) → Fin (tcTables nBuf tb) → BufTy
  | .hbm, ⟨0, _⟩ => ⟨S2048x50x128, .f32⟩
  | .hbm, ⟨1, _⟩ => ⟨S2048x64, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x256, .f32⟩
  | .hbm, ⟨11, _⟩ => ⟨S256, .f32⟩
  | .hbm, ⟨12, _⟩ => ⟨S256x64, .f32⟩
  | .hbm, ⟨13, _⟩ => ⟨S64, .f32⟩
  | .hbm, ⟨14, _⟩ => ⟨S50x2048x128, .f32⟩
  | .hbm, ⟨15, _⟩ => ⟨S1x256, .f32⟩
  | .hbm, ⟨16, _⟩ => ⟨S1x64, .f32⟩
  | .hbm, ⟨17, _⟩ => ⟨S50x2048x64, .f32⟩
  | .hbm, ⟨18, _⟩ => ⟨S50x64x2048, .f32⟩
  | .hbm, ⟨19, _⟩ => ⟨S64x1, .f32⟩
  | .hbm, ⟨20, _⟩ => ⟨S64x2048, .f32⟩
  | .hbm, ⟨21, _⟩ => ⟨S64x1, .f32⟩
  | .hbm, ⟨22, _⟩ => ⟨S64x2048, .f32⟩
  | .hbm, ⟨23, _⟩ => ⟨S256x1, .f32⟩
  | .hbm, ⟨24, _⟩ => ⟨S256x2048, .f32⟩
  | .hbm, ⟨25, _⟩ => ⟨S64x1, .f32⟩
  | .hbm, ⟨26, _⟩ => ⟨S64x2048, .f32⟩
  | .hbm, ⟨27, _⟩ => ⟨S50, .f32⟩
  | .hbm, ⟨28, _⟩ => ⟨S50, .f32⟩
  | .hbm, ⟨29, _⟩ => ⟨S_, .f32⟩
  | .hbm, ⟨30, _⟩ => ⟨S50, .f32⟩
  | .hbm, ⟨31, _⟩ => ⟨S50, .f32⟩
  | .hbm, ⟨32, _⟩ => ⟨S_, .f32⟩
  | .hbm, ⟨33, _⟩ => ⟨S50, .f32⟩
  | .hbm, ⟨34, _⟩ => ⟨S50, .f32⟩
  | .hbm, ⟨35, _⟩ => ⟨S_, .f32⟩
  | .hbm, ⟨36, _⟩ => ⟨S50, .f32⟩
  | .hbm, ⟨37, _⟩ => ⟨S50, .f32⟩
  | .hbm, ⟨38, _⟩ => ⟨S_, .f32⟩
  | .hbm, ⟨39, _⟩ => ⟨S50, .f32⟩
  | .hbm, ⟨40, _⟩ => ⟨S50, .f32⟩
  | .hbm, ⟨41, _⟩ => ⟨S_, .f32⟩
  | .hbm, ⟨42, _⟩ => ⟨S50, .f32⟩
  | .hbm, ⟨43, _⟩ => ⟨S50, .f32⟩
  | .hbm, ⟨44, _⟩ => ⟨S64x64, .f32⟩
  | .hbm, ⟨45, _⟩ => ⟨S64x64, .f32⟩
  | .hbm, ⟨46, _⟩ => ⟨S64x2048, .f32⟩
  | .hbm, ⟨47, _⟩ => ⟨S256x64, .f32⟩
  | .hbm, ⟨48, _⟩ => ⟨S64x256, .f32⟩
  | .hbm, ⟨49, _⟩ => ⟨S1x1, .f32⟩
  | .hbm, ⟨50, _⟩ => ⟨S1x1, .f32⟩
  | .hbm, ⟨51, _⟩ => ⟨S_, .f32⟩
  | .hbm, ⟨52, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S1x1024x64, .f32⟩
  | .local _ .vmem, ⟨7, _⟩ => ⟨S1x1024x64, .f32⟩
  | .local _ .vmem, ⟨8, _⟩ => ⟨S1x64x2048, .f32⟩
  | .local _ .vmem, ⟨9, _⟩ => ⟨S1x64x2048, .f32⟩
  | .local _ .vmem, ⟨10, _⟩ => ⟨S64x64, .f32⟩
  | .local _ .vmem, ⟨11, _⟩ => ⟨S64x64, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S256x64, .f32⟩
  | .local _ .vmem, ⟨16, _⟩ => ⟨S256x2048, .f32⟩
  | .local _ .vmem, ⟨17, _⟩ => ⟨S64x256, .f32⟩
  | .local _ .vmem, ⟨18, _⟩ => ⟨S64x2048, .f32⟩
  | .local _ .vmem, ⟨19, _⟩ => ⟨S1x1, .f32⟩
  | .local _ .vmem, ⟨20, _⟩ => ⟨S1x1, .f32⟩
  | .local _ .vmem, ⟨21, _⟩ => ⟨S64x2048, .f32⟩
  | .local _ .vmem, ⟨22, _⟩ => ⟨S64x64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .smem, ⟨0, _⟩ => ⟨S50, .f32⟩
  | .local _ .smem, ⟨1, _⟩ => ⟨S50, .f32⟩
  | _, _ => ⟨S2048x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22

abbrev nD : Nat := 1
abbrev τ : Topo := Topo.v7x

variable {F : FTy → Type} [FloatOps F]

abbrev grid0 : Pipeline.Grid := ⟨2, ![50, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![50], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_42 : BitVec 32 := 0#32
  let c64_i32 : BitVec 32 := 64#32
  let v73 : BitVec 32 := Scalar.addi c0_i32_42 c64_i32
  let c1_i32_43 : BitVec 32 := 1#32
  ⟨c0_i32_42, v73, c1_i32_43⟩
def k1_off1 (k1_t1 : Fin k1_t1_loop.trips) : Fin 3 → Nat :=
  let c0_i32_42 : BitVec 32 := 0#32
  let c1_i32_43 : BitVec 32 := 1#32
  let arg20 : BitVec 32 := Scf.iv c0_i32_42 c1_i32_43 k1_t1
  let v75 : Index := Scalar.indexCast arg20
  let c0_46 : Index := 0#32
  let c0_47 : Index := 0#32
  ![v75.toNat, 0, 0]
def k1_off2 (i : grid1.Coords) : Fin 1 → Nat :=
  let arg0 : BitVec 32 := BitVec.ofNat 32 (i 0).val
  let v18 : Index := Scalar.indexCast arg0
  ![v18.toNat]
@[reducible] def k1_t2_loop : Scf.Loop 32 :=
  let c0_i32_18 : BitVec 32 := 0#32
  let c2_i32 : BitVec 32 := 2#32
  let v29 : BitVec 32 := Scalar.addi c0_i32_18 c2_i32
  let c1_i32 : BitVec 32 := 1#32
  ⟨c0_i32_18, v29, c1_i32⟩
def k1_mult1 (k1_t2 : Fin k1_t2_loop.trips) : BitVec 32 :=
  let c0_i32_18 : BitVec 32 := 0#32
  let c1_i32 : BitVec 32 := 1#32
  let arg20 : BitVec 32 := Scf.iv c0_i32_18 c1_i32 k1_t2
  let c32_i32 : BitVec 32 := 32#32
  let v69 : BitVec 32 := Scalar.muli arg20 c32_i32
  v69
def k1_off3 (k1_t2 : Fin k1_t2_loop.trips) : Fin 2 → Nat :=
  let c0_i32_18 : BitVec 32 := 0#32
  let c1_i32 : BitVec 32 := 1#32
  let arg20 : BitVec 32 := Scf.iv c0_i32_18 c1_i32 k1_t2
  let c32_i32 : BitVec 32 := 32#32
  let v69 : BitVec 32 := Scalar.muli arg20 c32_i32
  let v70 : BitVec 32 := v69
  let v71 : Index := Scalar.indexCast v70
  let c0_39 : Index := 0#32
  ![v71.toNat, 0]
def k1_off4 (k1_t2 : Fin k1_t2_loop.trips) (c0_i32_42 : BitVec 32) : Fin 3 → Nat :=
  let c0_i32_18 : BitVec 32 := 0#32
  let c1_i32 : BitVec 32 := 1#32
  let arg20 : BitVec 32 := Scf.iv c0_i32_18 c1_i32 k1_t2
  let c32_i32 : BitVec 32 := 32#32
  let v69 : BitVec 32 := Scalar.muli arg20 c32_i32
  let v70 : BitVec 32 := v69
  let v74 : BitVec 32 := Scalar.addi v70 c0_i32_42
  let v78 : Index := Scalar.indexCast v74
  let c0_43 : Index := 0#32
  let c0_44 : Index := 0#32
  ![v78.toNat, 0, 0]
def k1_cond2 (i : grid1.Coords) : BitVec 1 :=
  let arg0 : BitVec 32 := BitVec.ofNat 32 (i 0).val
  let c49_i32 : BitVec 32 := 49#32
  let v66 : BitVec 1 := Scalar.cmpi .eq arg0 c49_i32
  let v67 : BitVec 32 := Scalar.extui v66
  let c0_i32_38 : BitVec 32 := 0#32
  let v68 : BitVec 1 := Scalar.cmpi .ne v67 c0_i32_38
  v68

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S50 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== ReferenceIdeal.lean ====
abbrev S2048x50x128 : Shape := ⟨3, ![2048, 50, 128]⟩
abbrev S2048x64 : Shape := ⟨2, ![2048, 64]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S_ : Shape := ⟨0, ![]⟩
abbrev S2048x64x64 : Shape := ⟨3, ![2048, 64, 64]⟩
abbrev S50x2048x128 : Shape := ⟨3, ![50, 2048, 128]⟩
abbrev S1x2048x128 : Shape := ⟨3, ![1, 2048, 128]⟩
abbrev S2048x128 : Shape := ⟨2, ![2048, 128]⟩
abbrev S2048x256 : Shape := ⟨2, ![2048, 256]⟩
abbrev S1x256 : Shape := ⟨2, ![1, 256]⟩
abbrev S1x64 : Shape := ⟨2, ![1, 64]⟩
abbrev S2048x64x1 : Shape := ⟨3, ![2048, 64, 1]⟩
abbrev S2048x1x64 : Shape := ⟨3, ![2048, 1, 64]⟩
abbrev S2048 : Shape := ⟨1, ![2048]⟩
abbrev S2048x1 : Shape := ⟨2, ![2048, 1]⟩

abbrev nBuf : Space → Nat
  | .hbm => 157
  | .vmem => 0
  | .smem => 0
  | _ => 0

abbrev hbmTy0_0 (i : Nat) : BufTy := match i % 128 with
  | 0 => ⟨S2048x50x128, .f32⟩
  | 1 => ⟨S2048x64, .f32⟩
  | 2 => ⟨S128x256, .f32⟩
  | 3 => ⟨S256, .f32⟩
  | 4 => ⟨S256x64, .f32⟩
  | 5 => ⟨S64, .f32⟩
  | 6 => ⟨S64x64, .f32⟩
  | 7 => ⟨S64x64, .f32⟩
  | 8 => ⟨S64, .f32⟩
  | 9 => ⟨S64, .f32⟩
  | 10 => ⟨S64x256, .f32⟩
  | 11 => ⟨S256, .f32⟩
  | 12 => ⟨S256x64, .f32⟩
  | 13 => ⟨S64, .f32⟩
  | 14 => ⟨S_, .f32⟩
  | 15 => ⟨S2048x64, .f32⟩
  | 16 => ⟨S_, .f32⟩
  | 17 => ⟨S2048x64x64, .f32⟩
  | 18 => ⟨S50x2048x128, .f32⟩
  | 19 => ⟨S_, .i32⟩
  | 20 => ⟨S50x2048x128, .f32⟩
  | 21 => ⟨S128x256, .f32⟩
  | 22 => ⟨S256, .f32⟩
  | 23 => ⟨S256x64, .f32⟩
  | 24 => ⟨S64, .f32⟩
  | 25 => ⟨S64x64, .f32⟩
  | 26 => ⟨S64x64, .f32⟩
  | 27 => ⟨S64, .f32⟩
  | 28 => ⟨S64, .f32⟩
  | 29 => ⟨S_, .i32⟩
  | 30 => ⟨S2048x64, .f32⟩
  | 31 => ⟨S2048x64x64, .f32⟩
  | 32 => ⟨S_, .i32⟩
  | 33 => ⟨S_, .i1⟩
  | 34 => ⟨S_, .i32⟩
  | 35 => ⟨S_, .i32⟩
  | 36 => ⟨S1x2048x128, .f32⟩
  | 37 => ⟨S2048x128, .f32⟩
  | 38 => ⟨S2048x256, .f32⟩
  | 39 => ⟨S1x256, .f32⟩
  | 40 => ⟨S2048x256, .f32⟩
  | 41 => ⟨S2048x256, .f32⟩
  | 42 => ⟨S_, .f32⟩
  | 43 => ⟨S2048x256, .f32⟩
  | 44 => ⟨S2048x256, .f32⟩
  | 45 => ⟨S2048x64, .f32⟩
  | 46 => ⟨S1x64, .f32⟩
  | 47 => ⟨S2048x64, .f32⟩
  | 48 => ⟨S2048x64, .f32⟩
  | 49 => ⟨S_, .f32⟩
  | 50 => ⟨S2048x64, .f32⟩
  | 51 => ⟨S2048x64, .f32⟩
  | 52 => ⟨S2048x64, .f32⟩
  | 53 => ⟨S2048x64, .f32⟩
  | 54 => ⟨S2048x64, .f32⟩
  | 55 => ⟨S_, .f32⟩
  | 56 => ⟨S2048x64, .f32⟩
  | 57 => ⟨S2048x64, .f32⟩
  | 58 => ⟨S_, .f32⟩
  | 59 => ⟨S2048x64x64, .f32⟩
  | 60 => ⟨S2048x64x64, .f32⟩
  | 61 => ⟨S2048x64x1, .f32⟩
  | 62 => ⟨S2048x1x64, .f32⟩
  | 63 => ⟨S2048x64x64, .f32⟩
  | 64 => ⟨S2048x64x64, .f32⟩
  | 65 => ⟨S2048x64x64, .f32⟩
  | 66 => ⟨S_, .f32⟩
  | 67 => ⟨S2048x64x64, .f32⟩
  | 68 => ⟨S2048x64x64, .f32⟩
  | 69 => ⟨S2048x64x64, .f32⟩
  | 70 => ⟨S2048x64, .f32⟩
  | 71 => ⟨S2048x64, .f32⟩
  | 72 => ⟨S2048x64, .f32⟩
  | 73 => ⟨S2048x64, .f32⟩
  | 74 => ⟨S2048x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S2048x64, .f32⟩
  | 82 => ⟨S2048x64, .f32⟩
  | 83 => ⟨S2048x64, .f32⟩
  | 84 => ⟨S_, .f32⟩
  | 85 => ⟨S64, .f32⟩
  | 86 => ⟨S_, .f32⟩
  | 87 => ⟨S64, .f32⟩
  | 88 => ⟨S64, .f32⟩
  | 89 => ⟨S64, .f32⟩
  | 90 => ⟨S1x64, .f32⟩
  | 91 => ⟨S2048x64, .f32⟩
  | 92 => ⟨S2048x64, .f32⟩
  | 93 => ⟨S1x64, .f32⟩
  | 94 => ⟨S2048x64, .f32⟩
  | 95 => ⟨S2048x64, .f32⟩
  | 96 => ⟨S1x64, .f32⟩
  | 97 => ⟨S2048x64, .f32⟩
  | 98 => ⟨S2048x64, .f32⟩
  | 99 => ⟨S1x64, .f32⟩
  | 100 => ⟨S2048x64, .f32⟩
  | 101 => ⟨S2048x64, .f32⟩
  | 102 => ⟨S_, .f32⟩
  | 103 => ⟨S2048x64, .f32⟩
  | 104 => ⟨S2048x64, .f32⟩
  | 105 => ⟨S_, .i32⟩
  | 106 => ⟨S_, .i32⟩
  | 107 => ⟨S2048x256, .f32⟩
  | 108 => ⟨S1x256, .f32⟩
  | 109 => ⟨S2048x256, .f32⟩
  | 110 => ⟨S2048x256, .f32⟩
  | 111 => ⟨S_, .f32⟩
  | 112 => ⟨S2048x256, .f32⟩
  | 113 => ⟨S2048x256, .f32⟩
  | 114 => ⟨S2048x64, .f32⟩
  | 115 => ⟨S1x64, .f32⟩
  | 116 => ⟨S2048x64, .f32⟩
  | 117 => ⟨S2048x64, .f32⟩
  | 118 => ⟨S2048x64, .f32⟩
  | 119 => ⟨S_, .f32⟩
  | 120 => ⟨S2048, .f32⟩
  | 121 => ⟨S_, .f32⟩
  | 122 => ⟨S2048, .f32⟩
  | 123 => ⟨S2048, .f32⟩
  | 124 => ⟨S2048x1, .f32⟩
  | 125 => ⟨S2048x64, .f32⟩
  | 126 => ⟨S2048x64, .f32⟩
  | 127 => ⟨S2048x64, .f32⟩
  | _ => ⟨S2048x50x128, .f32⟩

abbrev hbmTy0_1 (i : Nat) : BufTy := match i % 128 with
  | 0 => ⟨S_, .f32⟩
  | 1 => ⟨S2048, .f32⟩
  | 2 => ⟨S2048x1, .f32⟩
  | 3 => ⟨S2048x1, .f32⟩
  | 4 => ⟨S2048x64, .f32⟩
  | 5 => ⟨S2048x64, .f32⟩
  | 6 => ⟨S2048x64, .f32⟩
  | 7 => ⟨S_, .f32⟩
  | 8 => ⟨S2048, .f32⟩
  | 9 => ⟨S_, .f32⟩
  | 10 => ⟨S_, .f32⟩
  | 11 => ⟨S_, .f32⟩
  | 12 => ⟨S_, .f32⟩
  | 13 => ⟨S2048x64, .i32⟩
  | 14 => ⟨S_, .f32⟩
  | 15 => ⟨S_, .i32⟩
  | 16 => ⟨S2048, .f32⟩
  | 17 => ⟨S2048, .i32⟩
  | 18 => ⟨S2048x64, .i32⟩
  | 19 => ⟨S_, .f32⟩
  | 20 => ⟨S_, .i32⟩
  | 21 => ⟨S2048, .f32⟩
  | 22 => ⟨S2048, .i32⟩
  | 23 => ⟨S2048, .i1⟩
  | 24 => ⟨S2048, .f32⟩
  | 25 => ⟨S_, .f32⟩
  | 26 => ⟨S_, .f32⟩
  | 27 => ⟨S_, .f32⟩
  | 28 => ⟨S_, .f32⟩
  | _ => ⟨S2048x50x128, .f32⟩

abbrev hbmTy (i : Nat) : BufTy := match i / 128 with
  | 0 => hbmTy0_0 i
  | 1 => hbmTy0_1 i
  | _ => ⟨S2048x50x128, .f32⟩

abbrev bufTy : (tb : Table) → Fin (tcTables nBuf tb) → BufTy
  | .hbm, ⟨i, _⟩ => hbmTy i
  | _, _ => ⟨S2048x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v3_3 : Ref sig .tc := ⟨.hbm, 23, rfl⟩
abbrev main_v3_4 : Ref sig .tc := ⟨.hbm, 24, rfl⟩
abbrev main_v3_5 : Ref sig .tc := ⟨.hbm, 25, rfl⟩
abbrev main_v3_6 : Ref sig .tc := ⟨.hbm, 26, rfl⟩
abbrev main_v3_7 : Ref sig .tc := ⟨.hbm, 27, rfl⟩
abbrev main_v3_8 : Ref sig .tc := ⟨.hbm, 28, rfl⟩
abbrev main_v3_9 : Ref sig .tc := ⟨.hbm, 29, rfl⟩
abbrev main_v3_10 : Ref sig .tc := ⟨.hbm, 30, rfl⟩
abbrev main_v3_11 : Ref sig .tc := ⟨.hbm, 31, rfl⟩
abbrev main_while0c_c_17 : Ref sig .tc := ⟨.hbm, 32, rfl⟩
abbrev main_while0c_v25 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v25 : Ref sig .tc := ⟨.hbm, 37, rfl⟩
abbrev main_while0b_v26 : Ref sig .tc := ⟨.hbm, 38, rfl⟩
abbrev main_while0b_v27 : Ref sig .tc := ⟨.hbm, 39, rfl⟩
abbrev main_while0b_v28 : Ref sig .tc := ⟨.hbm, 40, rfl⟩
abbrev main_while0b_v29 : Ref sig .tc := ⟨.hbm, 41, rfl⟩
abbrev main_while0b_call1_cst : Ref sig .tc := ⟨.hbm, 42, rfl⟩
abbrev main_while0b_call1_v0 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_call2_cst : Ref sig .tc := ⟨.hbm, 49, rfl⟩
abbrev main_while0b_call2_v0 : Ref sig .tc := ⟨.hbm, 50, rfl⟩
abbrev main_while0b_v35 : Ref sig .tc := ⟨.hbm, 51, rfl⟩
abbrev main_while0b_v36 : Ref sig .tc := ⟨.hbm, 52, rfl⟩
abbrev main_while0b_v37 : Ref sig .tc := ⟨.hbm, 53, rfl⟩
abbrev main_while0b_v38 : Ref sig .tc := ⟨.hbm, 54, rfl⟩
abbrev main_while0b_call3_cst : Ref sig .tc := ⟨.hbm, 55, rfl⟩
abbrev main_while0b_call3_v0 : Ref sig .tc := ⟨.hbm, 56, rfl⟩
abbrev main_while0b_v39 : Ref sig .tc := ⟨.hbm, 57, rfl⟩
abbrev main_while0b_cst_17 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_cst_18 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_v51 : Ref sig .tc := ⟨.hbm, 71, rfl⟩
abbrev main_while0b_v52 : Ref sig .tc := ⟨.hbm, 72, rfl⟩
abbrev main_while0b_v53 : Ref sig .tc := ⟨.hbm, 73, rfl⟩
abbrev main_while0b_v54 : Ref sig .tc := ⟨.hbm, 74, rfl⟩
abbrev main_while0b_cst_19 : Ref sig .tc := ⟨.hbm, 75, rfl⟩
abbrev main_while0b_v55 : Ref sig .tc := ⟨.hbm, 76, rfl⟩
abbrev main_while0b_cst_20 : Ref sig .tc := ⟨.hbm, 77, rfl⟩
abbrev main_while0b_v56 : Ref sig .tc := ⟨.hbm, 78, rfl⟩
abbrev main_while0b_v57 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_v61 : Ref sig .tc := ⟨.hbm, 83, rfl⟩
abbrev main_while0b_cst_21 : Ref sig .tc := ⟨.hbm, 84, rfl⟩
abbrev main_while0b_v62 : Ref sig .tc := ⟨.hbm, 85, rfl⟩
abbrev main_while0b_cst_22 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_v76 : Ref sig .tc := ⟨.hbm, 100, rfl⟩
abbrev main_while0b_v77 : Ref sig .tc := ⟨.hbm, 101, rfl⟩
abbrev main_while0b_call4_cst : Ref sig .tc := ⟨.hbm, 102, rfl⟩
abbrev main_while0b_call4_v0 : Ref sig .tc := ⟨.hbm, 103, rfl⟩
abbrev main_while0b_v78 : Ref sig .tc := ⟨.hbm, 104, rfl⟩
abbrev main_while0b_c_23 : Ref sig .tc := ⟨.hbm, 105, rfl⟩
abbrev main_while0b_v79 : Ref sig .tc := ⟨.hbm, 106, rfl⟩
abbrev main_v4 : Ref sig .tc := ⟨.hbm, 107, rfl⟩
abbrev main_v5 : Ref sig .tc := ⟨.hbm, 108, rfl⟩
abbrev main_v6 : Ref sig .tc := ⟨.hbm, 109, rfl⟩
abbrev main_v7 : Ref sig .tc := ⟨.hbm, 110, rfl⟩
abbrev main_call5_cst : Ref sig .tc := ⟨.hbm, 111, rfl⟩
abbrev main_call5_v0 : Ref sig .tc := ⟨.hbm, 112, rfl⟩
abbrev main_v8 : Ref sig .tc := ⟨.hbm, 113, rfl⟩
abbrev main_v9 : Ref sig .tc := ⟨.hbm, 114, rfl⟩
abbrev main_v10 : Ref sig .tc := ⟨.hbm, 115, rfl⟩
abbrev main_v11 : Ref sig .tc := ⟨.hbm, 116, rfl⟩
abbrev main_v12 : Ref sig .tc := ⟨.hbm, 117, rfl⟩
abbrev main_v13 : Ref sig .tc := ⟨.hbm, 118, rfl⟩
abbrev main_call6_cst : Ref sig .tc := ⟨.hbm, 119, rfl⟩
abbrev main_call6_v0 : Ref sig .tc := ⟨.hbm, 120, rfl⟩
abbrev main_call6_cst_0 : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_v5 : Ref sig .tc := ⟨.hbm, 126, rfl⟩
abbrev main_call6_v6 : Ref sig .tc := ⟨.hbm, 127, rfl⟩
abbrev main_call6_cst_1 : Ref sig .tc := ⟨.hbm, 128, rfl⟩
abbrev main_call6_v7 : Ref sig .tc := ⟨.hbm, 129, rfl⟩
abbrev main_call6_v8 : Ref sig .tc := ⟨.hbm, 130, rfl⟩
abbrev main_call6_v9 : Ref sig .tc := ⟨.hbm, 131, rfl⟩
abbrev main_call6_v10 : Ref sig .tc := ⟨.hbm, 132, rfl⟩
abbrev main_v14 : Ref sig .tc := ⟨.hbm, 133, rfl⟩
abbrev main_v15 : Ref sig .tc := ⟨.hbm, 134, rfl⟩
abbrev main_cst_1 : Ref sig .tc := ⟨.hbm, 135, rfl⟩
abbrev main_v16 : Ref sig .tc := ⟨.hbm, 136, rfl⟩
abbrev main_cst_2 : Ref sig .tc := ⟨.hbm, 137, rfl⟩
abbrev main_v17 : Ref sig .tc := ⟨.hbm, 138, rfl⟩
abbrev main_cst_3 : Ref sig .tc := ⟨.hbm, 139, rfl⟩
abbrev main_v18 : Ref sig .tc := ⟨.hbm, 140, rfl⟩
abbrev main_call7_v0 : Ref sig .tc := ⟨.hbm, 141, rfl⟩
abbrev main_call7_cst : Ref sig .tc := ⟨.hbm, 142, rfl⟩
abbrev main_call7_c : Ref sig .tc := ⟨.hbm, 143, rfl⟩
abbrev main_call7_v1_0 : Ref sig .tc := ⟨.hbm, 144, rfl⟩
abbrev main_v19 : Ref sig .tc := ⟨.hbm, 145, rfl⟩
abbrev main_call8_v0 : Ref sig .tc := ⟨.hbm, 146, rfl⟩
abbrev main_call8_cst : Ref sig .tc := ⟨.hbm, 147, rfl⟩
abbrev main_call8_c : Ref sig .tc := ⟨.hbm, 148, rfl⟩
abbrev main_call8_v1_0 : Ref sig .tc := ⟨.hbm, 149, rfl⟩
abbrev main_v20 : Ref sig .tc := ⟨.hbm, 150, rfl⟩
abbrev main_v21 : Ref sig .tc := ⟨.hbm, 151, rfl⟩
abbrev main_v22 : Ref sig .tc := ⟨.hbm, 152, rfl⟩
abbrev main_cst_4 : Ref sig .tc := ⟨.hbm, 153, rfl⟩
abbrev main_v23 : Ref sig .tc := ⟨.hbm, 154, rfl⟩
abbrev main_cst_5 : Ref sig .tc := ⟨.hbm, 155, rfl⟩
abbrev main_v24 : Ref sig .tc := ⟨.hbm, 156, rfl⟩

abbrev nD : Nat := 1
abbrev τ : Topo := Topo.v7x

variable {F : FTy → Type} [FloatOps F]

abbrev main_while0_count : Scf.Loop 32 := ⟨0#32, 50#32, 1#32⟩
-- ==== Proof.ScanLoops.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.WordCmp
public import Idealize.ShloMosaic.Lib.VecWindow
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the scan kernel's two counted loops leave

The first loop clears the fast-weight store row by row. The second goes over the store in two tiles of 32 rows: it adds to
row `i` the product of row `i` of the scaled state with the state, and adds to the running sum the products of the scaled
state's rows with the rows just written. Both are stated on what the buffers read as. -/

theorem trips1 : Scf.trips k1_t1_loop.lb k1_t1_loop.ub k1_t1_loop.st = 64 := by decide +kernel
theorem trips2 : Scf.trips k1_t2_loop.lb k1_t2_loop.ub k1_t2_loop.st = 2 := by decide +kernel
theorem off1_eq : ∀ k : Fin k1_t1_loop.trips, k1_off1 k = ![k.val, 0, 0] := by decide +kernel
theorem off3_eq : ∀ k : Fin k1_t2_loop.trips, k1_off3 k = ![32 * k.val, 0] := by decide +kernel
theorem off4_eq : ∀ (k : Fin k1_t2_loop.trips) (u : Fin 32), k1_off4 k (BitVec.ofNat 32 u.val) = ![32 * k.val + u.val, 0, 0] := by decide +kernel

/-! ## The row update -/

theorem slices_row : ∀ u : Fin 32, S32x2048.Slices ![u.val, 0] S1x2048 := by decide +kernel

/-- Row `u` of a tile of the scaled state, over all 64 rows. -/
def rowB (u : Fin 32) (v72 : Vec F S32x2048 .f32) : FVec F S64x2048 .f32 :=
  broadcastTo S64x2048 (shapeCast S1x2048 (extractStridedSlice S1x2048 ![u.val, 0] v72 (slices_row u)) shapeCasts_S1x2048_S1x2048) broadcasts_S1x2048_S64x2048

/-- The new row `u`: the old one plus that row times the state. -/
def rowN (u : Fin 32) (v72 : Vec F S32x2048 .f32) (v73 : Vec F S64x2048 .f32) (o : Vec F S1x64x2048 .f32) : FVec F S64x2048 .f32 :=
  addf (shapeCast S64x2048 o shapeCasts_S1x64x2048_S64x2048) (mulf (rowB u v72) v73)

/-- The new row `u` as it is stored. -/
def rowS (u : Fin 32) (v72 : Vec F S32x2048 .f32) (v73 : Vec F S64x2048 .f32) (o : Vec F S1x64x2048 .f32) : FVec F S1x64x2048 .f32 :=
  shapeCast S1x64x2048 (rowN u v72 v73 o) shapeCasts_S64x2048_S1x64x2048

/-- What row `u` adds to the sum. -/
def rowC (u : Fin 32) (v72 : Vec F S32x2048 .f32) (v73 : Vec F S64x2048 .f32) (o : Vec F S1x64x2048 .f32) : FVec F S64x2048 .f32 :=
  mulf (rowB u v72) (rowN u v72 v73 o)

section

variable (arg16 : Memref sig .tc .vmem S64x64x2048 .f32) (k : Fin k1_t2_loop.trips)

/-- The row of the store that step `u` of a trip loads. -/
def oldRow (f : BufTy.Contents (Elt F) arg16.view.ty) (u : Fin 32) : Vec F S1x64x2048 .f32 :=
  View.readAt (Elt F) arg16.view (Rect.unit (s := S64x64x2048) (k1_off4 k (BitVec.ofNat 32 u.val)) S1x64x2048.size (k1_off4_inb k u)).toLoadRect f

/-- The piece that step `u` of a trip writes. -/
def rowPiece (v72 : Vec F S32x2048 .f32) (v73 : Vec F S64x2048 .f32) (f : BufTy.Contents (Elt F) arg16.view.ty) (u : Fin 32) : View.Piece (Elt F) S64x64x2048 .f32 :=
  ⟨Rect.unit (s := S64x64x2048) (k1_off4 k (BitVec.ofNat 32 u.val)) S1x64x2048.size (k1_off4_inb k u), rowS u v72 v73 (oldRow arg16 k f u)⟩

/-- The pieces of a trip's first `n` steps, last first. -/
def rowPieces (v72 : Vec F S32x2048 .f32) (v73 : Vec F S64x2048 .f32) (f : BufTy.Contents (Elt F) arg16.view.ty) : (n : ℕ) → n ≤ 32 → List (View.Piece (Elt F) S64x64x2048 .f32)
  | 0, _ => []
  | n + 1, h => rowPiece arg16 k v72 v73 f ⟨n, h⟩ :: rowPieces v72 v73 f n (Nat.le_of_succ_le h)

/-- The sum of what a trip's first `n + 1` rows add, first row first. -/
def rowSum (v72 : Vec F S32x2048 .f32) (v73 : Vec F S64x2048 .f32) (f : BufTy.Contents (Elt F) arg16.view.ty) : (n : ℕ) → n < 32 → FVec F S64x2048 .f32
  | 0, h => rowC ⟨0, h⟩ v72 v73 (oldRow arg16 k f ⟨0, h⟩)
  | n + 1, h => addf (rowSum v72 v73 f n (Nat.lt_of_succ_lt h)) (rowC ⟨n + 1, h⟩ v72 v73 (oldRow arg16 k f ⟨n + 1, h⟩))

end

section

variable (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole)
  (X17 : BufTy.Contents (Elt F) arg17.view.ty) (X18 : BufTy.Contents (Elt F) arg18.view.ty) (k : Fin k1_t2_loop.trips)

/-- A trip's tile of the scaled state. -/
abbrev tile : Vec F S32x2048 .f32 := View.readAt (Elt F) arg18.view (Rect.unit (s := S64x2048) (k1_off3 k) S32x2048.size (k1_off3_inb k)).toLoadRect X18
/-- The state, as a trip loads it. -/
abbrev wholeOf : Vec F S64x2048 .f32 := View.readAt (Elt F) arg17.view (Rect.unit (s := S64x2048) ![0, 0] S64x2048.size inb_S64x2048_S64x2048_0_0).toLoadRect X17

theorem trip2_fst (f16 : BufTy.Contents (Elt F) arg16.view.ty) (f19 : BufTy.Contents (Elt F) arg19.view.ty) :
    (trip_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 k).1 f16 f19
      = rowPieces arg16 k (tile arg18 X18 k) (wholeOf arg17 X17) f16 32 le_rfl := by
  unfold trip_k1_t2
  rfl

theorem trip2_snd (f16 : BufTy.Contents (Elt F) arg16.view.ty) (f19 : BufTy.Contents (Elt F) arg19.view.ty) :
    (trip_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 k).2.1 f16 f19
      = [⟨Rect.unit (s := S64x2048) ![0, 0] S64x2048.size inb_S64x2048_S64x2048_0_0,
          shapeCast S64x2048 (addf (View.readAt (Elt F) arg19.view (Rect.unit (s := S64x2048) ![0, 0] S64x2048.size inb_S64x2048_S64x2048_0_0).toLoadRect f19)
            (rowSum arg16 k (tile arg18 X18 k) (wholeOf arg17 X17) f16 31 (by omega))) shapeCasts_S64x2048_S64x2048⟩] := by
  unfold trip_k1_t2
  rfl

end

/-! ## The updates by coordinates -/

theorem rowB_apply (u : Fin 32) (v72 : Vec F S32x2048 .f32) (j : Fin 64) (b : Fin 2048) : rowB u v72 (ix2 j b) = v72 (ix2 u b) := by
  pointwise [rowB]

theorem rowN_apply (u : Fin 32) (v72 : Vec F S32x2048 .f32) (v73 : Vec F S64x2048 .f32) (o : Vec F S1x64x2048 .f32) (j : Fin 64) (b : Fin 2048) :
    rowN u v72 v73 o (ix2 j b) = FloatOps.addf (o (ix3 0 j b)) (FloatOps.mulf (v72 (ix2 u b)) (v73 (ix2 j b))) := by
  pointwise [rowN, rowB_apply]

theorem rowS_apply (u : Fin 32) (v72 : Vec F S32x2048 .f32) (v73 : Vec F S64x2048 .f32) (o : Vec F S1x64x2048 .f32) (z : Fin 1) (j : Fin 64) (b : Fin 2048) :
    rowS u v72 v73 o (ix3 z j b) = FloatOps.addf (o (ix3 0 j b)) (FloatOps.mulf (v72 (ix2 u b)) (v73 (ix2 j b))) := by
  pointwise [rowS, rowN_apply]

theorem rowC_apply (u : Fin 32) (v72 : Vec F S32x2048 .f32) (v73 : Vec F S64x2048 .f32) (o : Vec F S1x64x2048 .f32) (j : Fin 64) (b : Fin 2048) :
    rowC u v72 v73 o (ix2 j b) = FloatOps.mulf (v72 (ix2 u b)) (FloatOps.addf (o (ix3 0 j b)) (FloatOps.mulf (v72 (ix2 u b)) (v73 (ix2 j b)))) := by
  pointwise [rowC, rowN_apply, rowB_apply]

/-- Row `u` of tile `k`. -/
def rowOf (k : Fin k1_t2_loop.trips) (u : Fin 32) : Fin 64 := ⟨32 * k.val + u.val, by have := k.isLt; have := u.isLt; have : k1_t2_loop.trips = 2 := trips2; omega⟩

theorem tile_apply (arg18 : Memref sig .tc .vmem S64x2048 .f32) (X18 : BufTy.Contents (Elt F) arg18.view.ty) (k : Fin k1_t2_loop.trips) (u : Fin 32) (b : Fin 2048) :
    tile arg18 X18 k (ix2 u b) = arg18.view.read (Elt F) X18 (ix2 (rowOf k u) b) := by
  refine congrArg (arg18.view.read (Elt F) X18) (funext fun a => Fin.ext ?_)
  show k1_off3 k a + 1 * (ix2 u b a).val = _
  rw [off3_eq]
  fin_cases a
  · show 32 * k.val + 1 * u.val = 32 * k.val + u.val; omega
  · show 0 + 1 * b.val = b.val; omega

theorem wholeOf_eq (arg17 : Memref sig .tc .vmem S64x2048 .f32) (X17 : BufTy.Contents (Elt F) arg17.view.ty) : wholeOf arg17 X17 = arg17.view.read (Elt F) X17 :=
  View.readAt_full arg17.view X17 _

theorem oldRow_apply (arg16 : Memref sig .tc .vmem S64x64x2048 .f32) (k : Fin k1_t2_loop.trips) (f : BufTy.Contents (Elt F) arg16.view.ty) (u : Fin 32) (z : Fin 1) (j : Fin 64) (b : Fin 2048) :
    oldRow arg16 k f u (ix3 z j b) = arg16.view.read (Elt F) f (ix3 (rowOf k u) j b) := by
  refine congrArg (arg16.view.read (Elt F) f) (funext fun a => Fin.ext ?_)
  show k1_off4 k (BitVec.ofNat 32 u.val) a + 1 * (ix3 z j b a).val = _
  rw [off4_eq]
  fin_cases a
  · show 32 * k.val + u.val + 1 * z.val = 32 * k.val + u.val; omega
  · show 0 + 1 * j.val = j.val; omega
  · show 0 + 1 * b.val = b.val; omega

/-! ## What a trip leaves -/

/-- The updated store. -/
def rowsA (e hn : Vec F S64x2048 .f32) (S : Vec F S64x64x2048 .f32) : Vec F S64x64x2048 .f32 := fun y =>
  FloatOps.addf (S y) (FloatOps.mulf (e (ix2 (y 0) (y 2))) (hn (ix2 (y 1) (y 2))))

/-- What row `i` adds to the sum. -/
def addsR (e hn : Vec F S64x2048 .f32) (S : Vec F S64x64x2048 .f32) (i : Fin 64) : Vec F S64x2048 .f32 := fun x =>
  FloatOps.mulf (e (ix2 i (x 1))) (rowsA e hn S (ix3 i (x 0) (x 1)))

/-- The sum of what the first `n + 1` rows of tile `k` add. -/
def tileSum (e hn : Vec F S64x2048 .f32) (S : Vec F S64x64x2048 .f32) (k : Fin k1_t2_loop.trips) : (n : ℕ) → n < 32 → FVec F S64x2048 .f32
  | 0, h => addsR e hn S (rowOf k ⟨0, h⟩)
  | n + 1, h => addf (tileSum e hn S k n (Nat.lt_of_succ_lt h)) (addsR e hn S (rowOf k ⟨n + 1, h⟩))

section

variable (arg16 : Memref sig .tc .vmem S64x64x2048 .f32) (k : Fin k1_t2_loop.trips)

theorem rowSum_eq (arg17 arg18 : Memref sig .tc .vmem S64x2048 .f32) (X17 : BufTy.Contents (Elt F) arg17.view.ty) (X18 : BufTy.Contents (Elt F) arg18.view.ty)
    (f : BufTy.Contents (Elt F) arg16.view.ty) (S : Vec F S64x64x2048 .f32) (hS : ∀ (u : Fin 32) j b, arg16.view.read (Elt F) f (ix3 (rowOf k u) j b) = S (ix3 (rowOf k u) j b)) :
    ∀ (n : ℕ) (h : n < 32), rowSum arg16 k (tile arg18 X18 k) (wholeOf arg17 X17) f n h
      = tileSum (arg18.view.read (Elt F) X18) (arg17.view.read (Elt F) X17) S k n h := by
  have key : ∀ u : Fin 32, rowC u (tile arg18 X18 k) (wholeOf arg17 X17) (oldRow arg16 k f u)
      = addsR (arg18.view.read (Elt F) X18) (arg17.view.read (Elt F) X17) S (rowOf k u) := fun u => by
    funext x
    idx_vars x
    rw [rowC_apply, oldRow_apply, tile_apply, wholeOf_eq, hS]
    rfl
  intro n
  induction n with
  | zero => intro h; exact key _
  | succ n ih => intro h; unfold rowSum tileSum; rw [ih, key]

theorem read_rowPieces (arg17 arg18 : Memref sig .tc .vmem S64x2048 .f32) (X17 : BufTy.Contents (Elt F) arg17.view.ty) (X18 : BufTy.Contents (Elt F) arg18.view.ty)
    (f : BufTy.Contents (Elt F) arg16.view.ty) (r : Fin 64) (j : Fin 64) (b : Fin 2048) : ∀ (n : ℕ) (h : n ≤ 32),
    arg16.view.read (Elt F) (arg16.view.writes (Elt F) f (rowPieces arg16 k (tile arg18 X18 k) (wholeOf arg17 X17) f n h)) (ix3 r j b)
      = if 32 * k.val ≤ r.val ∧ r.val < 32 * k.val + n then rowsA (arg18.view.read (Elt F) X18) (arg17.view.read (Elt F) X17) (arg16.view.read (Elt F) f) (ix3 r j b)
        else arg16.view.read (Elt F) f (ix3 r j b) := by
  intro n
  induction n with
  | zero => intro h; rw [if_neg (by omega)]; rfl
  | succ n ih =>
    intro h
    unfold rowPieces rowPiece
    by_cases hr : r.val = 32 * k.val + n
    · rw [if_pos (by omega)]
      have er : r = rowOf k ⟨n, h⟩ := Fin.ext hr
      subst er
      rw [View.read_writes_cons_unit_of_mem arg16.view f (k1_off4_inb k ⟨n, h⟩) _ _ (ix3 (rowOf k ⟨n, h⟩) j b) (ix3 (0 : Fin 1) j b) (off4_eq k ⟨n, h⟩)
        (fun a => by fin_cases a <;> simp [ix3, rowOf])]
      rw [rowS_apply, oldRow_apply, tile_apply, wholeOf_eq]
      rfl
    · rw [View.read_writes_cons_unit_of_not_mem arg16.view f (k1_off4_inb k ⟨n, h⟩) _ _ (ix3 r j b) (off4_eq k ⟨n, h⟩) 0
        (by show r.val < 32 * k.val + n ∨ 32 * k.val + n + 1 ≤ r.val; omega)]
      rw [ih]
      by_cases h2 : 32 * k.val ≤ r.val ∧ r.val < 32 * k.val + n
      · rw [if_pos h2, if_pos (by omega)]
      · rw [if_neg h2, if_neg (by omega)]

end

/-! ## What the second loop leaves -/

section

variable (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole)
  (X17 : BufTy.Contents (Elt F) arg17.view.ty) (X18 : BufTy.Contents (Elt F) arg18.view.ty)
  (G16 : BufTy.Contents (Elt F) arg16.view.ty) (G19 : BufTy.Contents (Elt F) arg19.view.ty)

/-- The sum the second loop leaves, from `z`. -/
def sumR (e hn : Vec F S64x2048 .f32) (S : Vec F S64x64x2048 .f32) (z : Vec F S64x2048 .f32) : Vec F S64x2048 .f32 :=
  addf (addf z (tileSum e hn S ⟨0, by decide +kernel⟩ 31 (by omega))) (tileSum e hn S ⟨1, by decide +kernel⟩ 31 (by omega))

theorem cast_same (x : Vec F S64x2048 .f32) : shapeCast S64x2048 x shapeCasts_S64x2048_S64x2048 = x := by
  funext y
  exact shapeCast_apply x _ y y rfl

abbrev pieces2 (n : ℕ) := pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 n

theorem loop2_fst_one (r : Fin 64) (j : Fin 64) (b : Fin 2048) :
    arg16.view.read (Elt F) (arg16.view.writes (Elt F) G16 (pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 1).1) (ix3 r j b)
      = if r.val < 32 then rowsA (arg18.view.read (Elt F) X18) (arg17.view.read (Elt F) X17) (arg16.view.read (Elt F) G16) (ix3 r j b)
        else arg16.view.read (Elt F) G16 (ix3 r j b) := by
  have e := pb_k1_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 ⟨0, by decide +kernel⟩
  simp only [pieces2]
  rw [show (1 : ℕ) = 0 + 1 from rfl, e]
  dsimp only [tripL_k1_t2]
  rw [trip2_fst]
  show arg16.view.read (Elt F) (arg16.view.writes (Elt F) G16 (rowPieces arg16 _ _ _ G16 32 _ ++ [])) (ix3 r j b) = _
  rw [List.append_nil, read_rowPieces]
  by_cases h : r.val < 32
  · rw [if_pos h, if_pos (by simp; omega)]
  · rw [if_neg h, if_neg (by simp; omega)]

/-- After the second loop the store reads as its rows updated. -/
theorem loop2_fst :
    arg16.view.read (Elt F) (arg16.view.writes (Elt F) G16 (pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 (Scf.trips k1_t2_loop.lb k1_t2_loop.ub k1_t2_loop.st)).1)
      = rowsA (arg18.view.read (Elt F) X18) (arg17.view.read (Elt F) X17) (arg16.view.read (Elt F) G16) := by
  funext y
  idx_vars y
  have e := pb_k1_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 ⟨1, by decide +kernel⟩
  simp only [pieces2]
  rw [trips2, show (2 : ℕ) = 1 + 1 from rfl, e]
  dsimp only [tripL_k1_t2]
  rw [trip2_fst, View.writes_append, read_rowPieces]
  have e1 := loop2_fst_one c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 y0 y1 y2
  simp only [pieces2] at e1
  by_cases h : y0.val < 32
  · rw [if_neg (by simp; omega), e1, if_pos h]
  · rw [if_pos (by simp; omega)]
    unfold rowsA
    rw [e1, if_neg h]

/-- After the second loop the sum's buffer reads as the sum. -/
theorem loop2_snd (L : List (View.Piece (Elt F) S64x2048 .f32)) (f0 : BufTy.Contents (Elt F) arg19.view.ty) :
    arg19.view.read (Elt F) (arg19.view.writes (Elt F) f0 ((pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 (Scf.trips k1_t2_loop.lb k1_t2_loop.ub k1_t2_loop.st)).2 ++ L))
      = sumR (arg18.view.read (Elt F) X18) (arg17.view.read (Elt F) X17) (arg16.view.read (Elt F) G16) (arg19.view.read (Elt F) G19) := by
  have e := pb_k1_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 ⟨1, by decide +kernel⟩
  have e' := pb_k1_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 ⟨0, by decide +kernel⟩
  simp only [pieces2]
  rw [trips2, show (2 : ℕ) = 1 + 1 from rfl, e]
  dsimp only [tripL_k1_t2]
  rw [trip2_snd, List.singleton_append, List.cons_append, View.read_writes_full arg19.view, cast_same, View.readAt_full]
  unfold sumR
  refine congrArg₂ addf ?_ ?_
  · refine Eq.trans (congrArg (fun p => arg19.view.read (Elt F) (arg19.view.writes (Elt F) G19 p.2)) e') ?_
    dsimp only [tripL_k1_t2]
    rw [trip2_snd, List.singleton_append, View.read_writes_full arg19.view, cast_same, View.readAt_full]
    refine congrArg₂ addf rfl ?_
    exact rowSum_eq arg16 _ arg17 arg18 X17 X18 _ _ (fun u j b => rfl) 31 _
  · refine rowSum_eq arg16 _ arg17 arg18 X17 X18 _ _ (fun u j b => ?_) 31 _
    have e1 := loop2_fst_one c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 (rowOf ⟨1, by decide +kernel⟩ u) j b
    simp only [pieces2] at e1
    rw [e1, if_neg (by simp [rowOf])]

end

/-! ## What the first loop leaves -/

section

variable (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole)
  (k1_h1 : k1_cond1 i = 1#1) (G16 : BufTy.Contents (Elt F) arg16.view.ty)

theorem trip1_eq (k : Fin k1_t1_loop.trips) :
    (trip_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1_h1 k).1
      = [⟨Rect.unit (s := S64x64x2048) (k1_off1 k) S1x64x2048.size (k1_off1_inb i k k1_h1), k1_pay114⟩] := by
  unfold trip_k1_t1
  rfl

/-- The cleared store. -/
def zerosA : Vec F S64x64x2048 .f32 := fun _ => Scalar.ofBits .f32 0x00000000#32

theorem pay114_apply (z : Fin 1) (j : Fin 64) (b : Fin 2048) : k1_pay114 (F := F) (ix3 z j b) = Scalar.ofBits .f32 0x00000000#32 := by
  pointwise [k1_pay114]

theorem loop1_upto (r : Fin 64) (j : Fin 64) (b : Fin 2048) : ∀ n : ℕ, n ≤ 64 →
    arg16.view.read (Elt F) (arg16.view.writes (Elt F) G16 (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1_h1 n)) (ix3 r j b)
      = if r.val < n then Scalar.ofBits .f32 0x00000000#32 else arg16.view.read (Elt F) G16 (ix3 r j b) := by
  intro n
  induction n with
  | zero => intro h; rw [if_neg (by omega)]; rfl
  | succ n ih =>
    intro h
    have hn : n < k1_t1_loop.trips := by have : k1_t1_loop.trips = 64 := trips1; omega
    have e := pb_k1_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1_h1 ⟨n, hn⟩
    dsimp only at e
    rw [e]
    dsimp only [tripL_k1_t1]
    rw [trip1_eq, List.singleton_append]
    by_cases hr : r.val = n
    · rw [if_pos (by omega)]
      rw [View.read_writes_cons_unit_of_mem arg16.view G16 (k1_off1_inb i ⟨n, hn⟩ k1_h1) _ _ (ix3 r j b) (ix3 (0 : Fin 1) j b) (off1_eq ⟨n, hn⟩)
        (fun a => by fin_cases a <;> simp [ix3, hr])]
      exact pay114_apply 0 j b
    · rw [View.read_writes_cons_unit_of_not_mem arg16.view G16 (k1_off1_inb i ⟨n, hn⟩ k1_h1) _ _ (ix3 r j b) (off1_eq ⟨n, hn⟩) 0
        (by show r.val < n ∨ n + 1 ≤ r.val; omega)]
      rw [ih (by omega)]
      by_cases h2 : r.val < n
      · rw [if_pos h2, if_pos (by omega)]
      · rw [if_neg h2, if_neg (by omega)]

/-- After the first loop the store reads as cleared. -/
theorem loop1_eq :
    arg16.view.read (Elt F) (arg16.view.writes (Elt F) G16 (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1_h1 (Scf.trips k1_t1_loop.lb k1_t1_loop.ub k1_t1_loop.st)))
      = zerosA := by
  funext y
  idx_vars y
  rw [trips1, loop1_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1_h1 G16 y0 y1 y2 64 le_rfl, if_pos y0.isLt]
  rfl

end

end Cert.KernelIdeal.Gen

end
-- ==== Proof.ScanStep.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.ScanLoops
public import Idealize.ShloMosaic.Lib.Pipeline.FrameBody
public import Idealize.ShloMosaic.Lib.Ring
public import Idealize.ShloMosaic.Lib.WordCmp
public import Idealize.ShloMosaic.Lib.VecWindow
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the scan, as functions of what its buffers hold -/

theorem off2_eq (i : grid1.Coords) : k1_off2 i = ![(i 0).val] := by
  have h : (i 0).val < 50 := (i 0).isLt
  have e : BitVec.toNat (BitVec.ofNat 32 (i 0).val) = (i 0).val := by rw [BitVec.toNat_ofNat]; omega
  show ![BitVec.toNat (BitVec.ofNat 32 (i 0).val)] = _
  rw [e]

/-- The word of a table of scalars at the point. -/
def atOf (i : grid1.Coords) (x : Vec F S50 .f32) : Elt F .f32 := x (ix1 ⟨(i 0).val, (i 0).isLt⟩)

theorem sc_read (i : grid1.Coords) (m : Memref sig .tc .smem S50 .f32) (hm : m.IsWhole) (x : Vec F S50 .f32)
    (inb : ∀ a, k1_off2 i a + S1.size a ≤ S50.size a) (h : 0 < (Rect.unit (s := S50) (k1_off2 i) S1.size inb).shape.numel) :
    m.view.readAt (Elt F) (Rect.unit (s := S50) (k1_off2 i) S1.size inb).toLoadRect (hm.unread x) (Shape.Idx.first h) = atOf i x := by
  show m.view.read (Elt F) (hm.unread x) _ = x _
  rw [hm.read_unread]
  refine congrArg x (funext fun a => Fin.ext ?_)
  have e : k1_off2 i a = ![(i 0).val] a := by rw [off2_eq]
  have e0 : ∀ z : (Rect.unit (s := S50) (k1_off2 i) S1.size inb).shape.Idx, (z a).val = 0 := fun z => by
    have := (z a).isLt
    fin_cases a
    exact Nat.lt_one_iff.mp this
  show k1_off2 i a + 1 * (Shape.Idx.first h a).val = _
  refine (congrArg₂ (fun p q => p + 1 * q) e (e0 _)).trans ?_
  fin_cases a
  rfl

/-! ## Whole loads and stores, with the sizes written out -/

theorem big_load {sp : Space} (v : View sig .tc sp S64x2048 .f32) (off : Fin 2 → ℕ) (inb) (f : v.ty.Contents (Elt F)) :
    v.readAt (Elt F) (Rect.unit (s := S64x2048) off ![64, 2048] inb).toLoadRect f = v.read (Elt F) f := View.readAt_full v f inb

theorem sq_load {sp : Space} (v : View sig .tc sp S64x64 .f32) (off : Fin 2 → ℕ) (inb) (f : v.ty.Contents (Elt F)) :
    v.readAt (Elt F) (Rect.unit (s := S64x64) off ![64, 64] inb).toLoadRect f = v.read (Elt F) f := View.readAt_full v f inb

theorem page_load {sp : Space} (v : View sig .tc sp S1x64x2048 .f32) (off : Fin 3 → ℕ) (inb) (f : v.ty.Contents (Elt F)) :
    v.readAt (Elt F) (Rect.unit (s := S1x64x2048) off ![1, 64, 2048] inb).toLoadRect f = v.read (Elt F) f := View.readAt_full v f inb

theorem tall_load {sp : Space} (v : View sig .tc sp S256x64 .f32) (off : Fin 2 → ℕ) (inb) (f : v.ty.Contents (Elt F)) :
    v.readAt (Elt F) (Rect.unit (s := S256x64) off ![256, 64] inb).toLoadRect f = v.read (Elt F) f := View.readAt_full v f inb

theorem bigTall_load {sp : Space} (v : View sig .tc sp S256x2048 .f32) (off : Fin 2 → ℕ) (inb) (f : v.ty.Contents (Elt F)) :
    v.readAt (Elt F) (Rect.unit (s := S256x2048) off ![256, 2048] inb).toLoadRect f = v.read (Elt F) f := View.readAt_full v f inb

theorem flat_load {sp : Space} (v : View sig .tc sp S64x256 .f32) (off : Fin 2 → ℕ) (inb) (f : v.ty.Contents (Elt F)) :
    v.readAt (Elt F) (Rect.unit (s := S64x256) off ![64, 256] inb).toLoadRect f = v.read (Elt F) f := View.readAt_full v f inb

theorem big_store (v : View sig .tc .vmem S64x2048 .f32) (off : Fin 2 → ℕ) (inb) (f : v.ty.Contents (Elt F)) (w : Vec F S64x2048 .f32) (L) :
    v.read (Elt F) (v.writes (Elt F) f (⟨Rect.unit (s := S64x2048) off ![64, 2048] inb, w⟩ :: L)) = w := View.read_writes_full v f inb w L

theorem sc_load (i : grid1.Coords) (m : Memref sig .tc .smem S50 .f32) (hm : m.IsWhole) (x : Vec F S50 .f32)
    (inb : ∀ a, k1_off2 i a + S1.size a ≤ S50.size a) (h : 0 < (Rect.unit (s := S50) (k1_off2 i) ![1] inb).shape.numel) :
    m.view.readAt (Elt F) (Rect.unit (s := S50) (k1_off2 i) ![1] inb).toLoadRect (hm.unread x) (Shape.Idx.first h) = atOf i x :=
  sc_read i m hm x inb h

/-- The input's share of the point. -/
def zcOf (x2 : Vec F S1x64x2048 .f32) (x4 : Vec F S64x64 .f32) : FVec F S64x2048 .f32 := k1_pay115 x2 x4

/-- The hidden state before the update. -/
def hnOf (x2 : Vec F S1x64x2048 .f32) (x3 x4 : Vec F S64x64 .f32) (h : Vec F S64x2048 .f32) : FVec F S64x2048 .f32 := k1_pay117 x2 h x4 x3

/-- What the update multiplies by. -/
def eOf (i : grid1.Coords) (x0 : Vec F S50 .f32) (x2 : Vec F S1x64x2048 .f32) (x3 x4 : Vec F S64x64 .f32) (h : Vec F S64x2048 .f32) : FVec F S64x2048 .f32 :=
  k1_pay118 x2 h x4 x3 (atOf i x0)

/-- The store after the point. -/
def aOf (i : grid1.Coords) (x0 : Vec F S50 .f32) (x2 : Vec F S1x64x2048 .f32) (x3 x4 : Vec F S64x64 .f32) (h : Vec F S64x2048 .f32) (a : Vec F S64x64x2048 .f32) :
    Vec F S64x64x2048 .f32 := rowsA (eOf i x0 x2 x3 x4 h) (hnOf x2 x3 x4 h) a

/-- What the store answers. -/
def rOf (i : grid1.Coords) (x0 : Vec F S50 .f32) (x2 : Vec F S1x64x2048 .f32) (x3 x4 : Vec F S64x64 .f32) (h : Vec F S64x2048 .f32) (a : Vec F S64x64x2048 .f32) :
    Vec F S64x2048 .f32 := sumR (eOf i x0 x2 x3 x4 h) (hnOf x2 x3 x4 h) a k1_pay119

/-- The hidden state after the point, as a computed value. -/
def hsOf (i : grid1.Coords) (x0 x1 : Vec F S50 .f32) (x2 : Vec F S1x64x2048 .f32) (x3 x4 : Vec F S64x64 .f32) (x5 x6 : Vec F S64x2048 .f32)
    (h : Vec F S64x2048 .f32) (a : Vec F S64x64x2048 .f32) : FVec F S64x2048 .f32 :=
  k1_pay124 (zcOf x2 x4) (hnOf x2 x3 x4 h) (atOf i x1) (rOf i x0 x2 x3 x4 h a) x3 x5 x6

/-- The hidden state after the point, as stored. -/
def hOf (i : grid1.Coords) (x0 x1 : Vec F S50 .f32) (x2 : Vec F S1x64x2048 .f32) (x3 x4 : Vec F S64x64 .f32) (x5 x6 : Vec F S64x2048 .f32)
    (h : Vec F S64x2048 .f32) (a : Vec F S64x64x2048 .f32) : FVec F S64x2048 .f32 :=
  k1_pay125 (zcOf x2 x4) (hnOf x2 x3 x4 h) (atOf i x1) (rOf i x0 x2 x3 x4 h a) x3 x5 x6

/-- The loss, of the last hidden state. -/
def lossOf (s : FVec F S64x2048 .f32) (x7 : Vec F S64x2048 .f32) (x8 : Vec F S256x64 .f32) (x9 : Vec F S256x2048 .f32) (x10 : Vec F S64x256 .f32)
    (x11 : Vec F S64x2048 .f32) : FVec F S1x1 .f32 := k1_pay111 s x8 x9 x10 x11 x7

/-- The accuracy, of the last hidden state. -/
def accOf (s : FVec F S64x2048 .f32) (x7 : Vec F S64x2048 .f32) (x8 : Vec F S256x64 .f32) (x9 : Vec F S256x2048 .f32) (x10 : Vec F S64x256 .f32)
    (x11 : Vec F S64x2048 .f32) : FVec F S1x1 .f32 :=
  k1_pay1 (k1_pay108 s x8 x9 x10 x11) (k1_pay110 x7) (iota .tc S64x2048 32 [0] iota_S64x2048_d0_w32) (k1_pay112 s x8 x9 x10 x11)

section

variable (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole)

theorem loop2_read (n : ℕ) (hn : n = Scf.trips k1_t2_loop.lb k1_t2_loop.ub k1_t2_loop.st) (X17 : BufTy.Contents (Elt F) arg17.view.ty) (X18 : BufTy.Contents (Elt F) arg18.view.ty)
    (G16 : BufTy.Contents (Elt F) arg16.view.ty) (G19 : BufTy.Contents (Elt F) arg19.view.ty) :
    arg16.view.read (Elt F) (arg16.view.writes (Elt F) G16 (pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 n).1)
      = rowsA (arg18.view.read (Elt F) X18) (arg17.view.read (Elt F) X17) (arg16.view.read (Elt F) G16) := by
  subst hn
  exact loop2_fst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19

theorem loop2_sum (n : ℕ) (hn : n = Scf.trips k1_t2_loop.lb k1_t2_loop.ub k1_t2_loop.st) (X17 : BufTy.Contents (Elt F) arg17.view.ty) (X18 : BufTy.Contents (Elt F) arg18.view.ty)
    (G16 : BufTy.Contents (Elt F) arg16.view.ty) (G19 : BufTy.Contents (Elt F) arg19.view.ty)
    (L : List (View.Piece (Elt F) S64x2048 .f32)) (f0 : BufTy.Contents (Elt F) arg19.view.ty) :
    arg19.view.read (Elt F) (arg19.view.writes (Elt F) f0 ((pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 n).2 ++ L))
      = sumR (arg18.view.read (Elt F) X18) (arg17.view.read (Elt F) X17) (arg16.view.read (Elt F) G16) (arg19.view.read (Elt F) G19) := by
  subst hn
  exact loop2_snd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 L f0

/-- The updates written over the cleared store. -/
theorem loop12_read (n : ℕ) (hn : n = Scf.trips k1_t2_loop.lb k1_t2_loop.ub k1_t2_loop.st) (X17 : BufTy.Contents (Elt F) arg17.view.ty) (X18 : BufTy.Contents (Elt F) arg18.view.ty)
    (f0 : BufTy.Contents (Elt F) arg16.view.ty) (G19 : BufTy.Contents (Elt F) arg19.view.ty)
    (L : List (View.Piece (Elt F) S64x64x2048 .f32)) (G16 : BufTy.Contents (Elt F) arg16.view.ty) (hG : G16 = arg16.view.writes (Elt F) f0 L) :
    arg16.view.read (Elt F) (arg16.view.writes (Elt F) f0 ((pb_k1_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 G16 G19 n).1 ++ L))
      = rowsA (arg18.view.read (Elt F) X18) (arg17.view.read (Elt F) X17) (arg16.view.read (Elt F) G16) := by
  subst hG hn
  rw [View.writes_append]
  exact loop2_fst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 _ G19

theorem loop1_read (n : ℕ) (hn : n = Scf.trips k1_t1_loop.lb k1_t1_loop.ub k1_t1_loop.st) (h1 : k1_cond1 i = 1#1) (G16 : BufTy.Contents (Elt F) arg16.view.ty) :
    arg16.view.read (Elt F) (arg16.view.writes (Elt F) G16 (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 n))
      = zerosA := by
  subst hn
  exact loop1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 G16

end

end Cert.KernelIdeal.Gen

end
-- ==== Proof.ScanRunA.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole) (hc0 : k1_cond1 i = 1#1) (hc1 : ¬k1_cond2 i = 1#1) (x0 : Vec F S50 .f32) (x1 : Vec F S50 .f32) (x2 : Vec F S1x64x2048 .f32) (x3 : Vec F S64x64 .f32) (x4 : Vec F S64x64 .f32) (x5 : Vec F S64x2048 .f32) (x6 : Vec F S64x2048 .f32) (x7 : Vec F S64x2048 .f32) (x8 : Vec F S256x64 .f32) (x9 : Vec F S256x2048 .f32) (x10 : Vec F S64x256 .f32) (x11 : Vec F S64x2048 .f32) (y12 y13 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare (hOf i x0 x1 x2 x3 x4 x5 x6 (k1_pay113 (F := F)) (zerosA (F := F))) ∗ owns (c : Thread nD τ) arg16 fullShare (aOf i x0 x2 x3 x4 (k1_pay113 (F := F)) (zerosA (F := F))) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc1_fast_weights_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_fast_weights_scan_eq_skeleton]; unfold cc1_fast_weights_scan_skel
  simp only [k1_part13_eq_skeleton, k1_part14_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [HS0]
  · iexists _; isplitr; swap; · iexact HS0
    ipureintro
    refine (View.read_writes_full _ _ _ _ _).trans ?_
    delta runA.sl.HS0_1 runA.sl.HS2_1 runA.sl.HS3_1 runA.sl.HS4_1 runA.sl.r runA.sl.r_1 runA.sl.r_2 runA.sl.r_3 runA.sl.v30 runA.sl.v33 runA.sl.v5 runA.sl.v66 runA.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_sum]
    rw [loop1_read]
    · simp only [big_store]
    all_goals rfl
  isplitl [HS1]
  · iexists _; isplitr; swap; · iexact HS1
    ipureintro
    delta runA.sl.HS0_1 runA.sl.HS2_1 runA.sl.HS3_1 runA.sl.HS4_1 runA.sl.r runA.sl.r_1 runA.sl.r_2 runA.sl.r_3 runA.sl.v30 runA.sl.v33 runA.sl.v5 runA.sl.v66 runA.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop12_read]
    rw [loop1_read]
    · simp only [big_store]
    all_goals rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Gen

end
-- ==== Proof.ScanRunB.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole) (hc0 : ¬k1_cond1 i = 1#1) (hc1 : ¬k1_cond2 i = 1#1) (x0 : Vec F S50 .f32) (x1 : Vec F S50 .f32) (x2 : Vec F S1x64x2048 .f32) (x3 : Vec F S64x64 .f32) (x4 : Vec F S64x64 .f32) (x5 : Vec F S64x2048 .f32) (x6 : Vec F S64x2048 .f32) (x7 : Vec F S64x2048 .f32) (x8 : Vec F S256x64 .f32) (x9 : Vec F S256x2048 .f32) (x10 : Vec F S64x256 .f32) (x11 : Vec F S64x2048 .f32) (y12 y13 : Vec F S1x1 .f32) (xs0 : Vec F S64x2048 .f32) (xs1 : Vec F S64x64x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare xs0 ∗ owns (c : Thread nD τ) arg16 fullShare xs1 ∗ (∃ d, owns (c : Thread nD τ) arg17 fullShare d) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare y13 ∗ owns (c : Thread nD τ) arg15 fullShare (hOf i x0 x1 x2 x3 x4 x5 x6 xs0 xs1) ∗ owns (c : Thread nD τ) arg16 fullShare (aOf i x0 x2 x3 x4 xs0 xs1) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc1_fast_weights_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_fast_weights_scan_eq_skeleton]; unfold cc1_fast_weights_scan_skel
  simp only [k1_part13_eq_skeleton, k1_part14_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs0; obtain rfl := harg16.eq_unread hfs1; obtain rfl := harg13.eq_unread hf12; obtain rfl := harg14.eq_unread hf13
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [HS0]
  · iexists _; isplitr; swap; · iexact HS0
    ipureintro
    refine (View.read_writes_full _ _ _ _ _).trans ?_
    delta runB.sl.HS2_1 runB.sl.HS3_1 runB.sl.HS4_1 runB.sl.r runB.sl.r_1 runB.sl.r_2 runB.sl.r_3 runB.sl.v30 runB.sl.v33 runB.sl.v66 runB.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_sum]
    · simp only [big_store, harg16.read_unread]
    all_goals rfl
  isplitl [HS1]
  · iexists _; isplitr; swap; · iexact HS1
    ipureintro
    delta runB.sl.HS2_1 runB.sl.HS3_1 runB.sl.HS4_1 runB.sl.r runB.sl.r_1 runB.sl.r_2 runB.sl.r_3 runB.sl.v30 runB.sl.v33 runB.sl.v66 runB.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_read]
    · simp only [big_store, harg16.read_unread]
    all_goals rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Gen

end
-- ==== Proof.ScanRunC.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid1.Coords) (arg1 : Memref sig .tc .smem S50 .f32) (harg1 : arg1.IsWhole) (arg2 : Memref sig .tc .smem S50 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S256x64 .f32) (harg9 : arg9.IsWhole) (arg10 : Memref sig .tc .vmem S256x2048 .f32) (harg10 : arg10.IsWhole) (arg11 : Memref sig .tc .vmem S64x256 .f32) (harg11 : arg11.IsWhole) (arg12 : Memref sig .tc .vmem S64x2048 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S64x2048 .f32) (harg15 : arg15.IsWhole) (arg16 : Memref sig .tc .vmem S64x64x2048 .f32) (harg16 : arg16.IsWhole) (arg17 : Memref sig .tc .vmem S64x2048 .f32) (harg17 : arg17.IsWhole) (arg18 : Memref sig .tc .vmem S64x2048 .f32) (harg18 : arg18.IsWhole) (arg19 : Memref sig .tc .vmem S64x2048 .f32) (harg19 : arg19.IsWhole) (hc0 : ¬k1_cond1 i = 1#1) (hc1 : k1_cond2 i = 1#1) (x0 : Vec F S50 .f32) (x1 : Vec F S50 .f32) (x2 : Vec F S1x64x2048 .f32) (x3 : Vec F S64x64 .f32) (x4 : Vec F S64x64 .f32) (x5 : Vec F S64x2048 .f32) (x6 : Vec F S64x2048 .f32) (x7 : Vec F S64x2048 .f32) (x8 : Vec F S256x64 .f32) (x9 : Vec F S256x2048 .f32) (x10 : Vec F S64x256 .f32) (x11 : Vec F S64x2048 .f32) (xs0 : Vec F S64x2048 .f32) (xs1 : Vec F S64x64x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ (∃ d, owns (c : Thread nD τ) arg17 fullShare d) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (lossOf (hsOf i x0 x1 x2 x3 x4 x5 x6 xs0 xs1) x7 x8 x9 x10 x11) ∗ owns (c : Thread nD τ) arg14 fullShare (accOf (hsOf i x0 x1 x2 x3 x4 x5 x6 xs0 xs1) x7 x8 x9 x10 x11) ∗ owns (c : Thread nD τ) arg15 fullShare (hOf i x0 x1 x2 x3 x4 x5 x6 xs0 xs1) ∗ owns (c : Thread nD τ) arg16 fullShare (aOf i x0 x2 x3 x4 xs0 xs1) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc1_fast_weights_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_fast_weights_scan_eq_skeleton]; unfold cc1_fast_weights_scan_skel
  simp only [k1_part13_eq_skeleton, k1_part14_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs0; obtain rfl := harg16.eq_unread hfs1
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro
    refine (View.read_writes_full _ _ _ _ _).trans ?_
    delta runC.sl.HS2_1 runC.sl.HS3_1 runC.sl.HS4_1 runC.sl.r runC.sl.r_1 runC.sl.r_2 runC.sl.r_3 runC.sl.r_4 runC.sl.r_5 runC.sl.r_6 runC.sl.v105 runC.sl.v30 runC.sl.v33 runC.sl.v66 runC.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_sum]
    · simp only [big_store, harg16.read_unread]
    all_goals rfl
  isplitl [H13]
  · iexists _; isplitr; swap; · iexact H13
    ipureintro
    refine (View.read_writes_full _ _ _ _ _).trans ?_
    delta runC.sl.HS2_1 runC.sl.HS3_1 runC.sl.HS4_1 runC.sl.r runC.sl.r_1 runC.sl.r_2 runC.sl.r_3 runC.sl.r_4 runC.sl.r_5 runC.sl.r_6 runC.sl.v105 runC.sl.v30 runC.sl.v33 runC.sl.v66 runC.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_sum]
    · simp only [big_store, harg16.read_unread]
    all_goals rfl
  isplitl [HS0]
  · iexists _; isplitr; swap; · iexact HS0
    ipureintro
    refine (View.read_writes_full _ _ _ _ _).trans ?_
    delta runC.sl.HS2_1 runC.sl.HS3_1 runC.sl.HS4_1 runC.sl.r runC.sl.r_1 runC.sl.r_2 runC.sl.r_3 runC.sl.r_4 runC.sl.r_5 runC.sl.r_6 runC.sl.v105 runC.sl.v30 runC.sl.v33 runC.sl.v66 runC.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_sum]
    · simp only [big_store, harg16.read_unread]
    all_goals rfl
  isplitl [HS1]
  · iexists _; isplitr; swap; · iexact HS1
    ipureintro
    delta runC.sl.HS2_1 runC.sl.HS3_1 runC.sl.HS4_1 runC.sl.r runC.sl.r_1 runC.sl.r_2 runC.sl.r_3 runC.sl.r_4 runC.sl.r_5 runC.sl.r_6 runC.sl.v105 runC.sl.v30 runC.sl.v33 runC.sl.v66 runC.sl.v67
    simp only [lossOf, accOf, hsOf, hOf, aOf, rOf, eOf, hnOf, zcOf, View.readCov, big_load, sq_load, page_load, tall_load, bigTall_load, flat_load, big_store, sc_load, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    rw [loop2_read]
    · simp only [big_store, harg16.read_unread]
    all_goals rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Gen

end
-- ==== Proof.ScanRegion.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanRunA
public import proofs.«01_k».proof.Proof.ScanRunB
public import proofs.«01_k».proof.Proof.ScanRunC
public import Idealize.ShloMosaic.Lib.Pipeline.RegionsLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The scan's kernel call as a region of the program

The state the kernel carries from point to point is the hidden rows and the fast weights; `stAt` is that state before
point `n`, entered from any contents `V` of the buffers. -/

/-- Window `w`'s block at point `t`, read off the array's contents on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state before point `n`: the hidden rows and the fast weights. -/
def stAt (c : Dev nD) : ℕ → Vec F S64x2048 .f32 × Vec F S64x64x2048 .f32
  | 0 => (k1_pay113, zerosA)
  | n + 1 =>
    if hn : n < cfg1.N then
      (fun t : Fin cfg1.N => (hOf (grid1.coords t) (iblk1 V c 0 t) (iblk1 V c 1 t) (iblk1 V c 2 t) (iblk1 V c 3 t) (iblk1 V c 4 t) (iblk1 V c 5 t) (iblk1 V c 6 t) (stAt c n).1 (stAt c n).2,
        aOf (grid1.coords t) (iblk1 V c 0 t) (iblk1 V c 2 t) (iblk1 V c 3 t) (iblk1 V c 4 t) (stAt c n).1 (stAt c n).2)) ⟨n, hn⟩
    else stAt c n

theorem stAt_succ (c : Dev nD) (t : Fin cfg1.N) : stAt V c (t.val + 1)
    = (hOf (grid1.coords t) (iblk1 V c 0 t) (iblk1 V c 1 t) (iblk1 V c 2 t) (iblk1 V c 3 t) (iblk1 V c 4 t) (iblk1 V c 5 t) (iblk1 V c 6 t) (stAt V c t.val).1 (stAt V c t.val).2,
        aOf (grid1.coords t) (iblk1 V c 0 t) (iblk1 V c 2 t) (iblk1 V c 3 t) (iblk1 V c 4 t) (stAt V c t.val).1 (stAt V c t.val).2) := by
  rw [stAt, dif_pos t.isLt]

/-- The normalised rows at point `t`. -/
def hsAt (c : Dev nD) (t : Fin cfg1.N) : Vec F S64x2048 .f32 :=
  hsOf (grid1.coords t) (iblk1 V c 0 t) (iblk1 V c 1 t) (iblk1 V c 2 t) (iblk1 V c 3 t) (iblk1 V c 4 t) (iblk1 V c 5 t) (iblk1 V c 6 t) (stAt V c t.val).1 (stAt V c t.val).2
/-- The loss as point `t` would store it. -/
def lossAt (c : Dev nD) (t : Fin cfg1.N) : Vec F S1x1 .f32 := lossOf (hsAt V c t) (iblk1 V c 7 t) (iblk1 V c 8 t) (iblk1 V c 9 t) (iblk1 V c 10 t) (iblk1 V c 11 t)
/-- The accuracy as point `t` would store it. -/
def accAt (c : Dev nD) (t : Fin cfg1.N) : Vec F S1x1 .f32 := accOf (hsAt V c t) (iblk1 V c 7 t) (iblk1 V c 8 t) (iblk1 V c 9 t) (iblk1 V c 10 t) (iblk1 V c 11 t)

/-- The first call's staging buffers, at anything: this call never touches them. -/
def stgs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- What the region holds between points. -/
def PhiS (c : Dev nD) : ℕ → sProp 𝕄
  | 0 => Pipeline.scopedRest spec1 c
  | n + 1 => iprop(stgs (F := F) c ∗ owns (c : Thread nD τ) (Memref.whole cc1_scratch0) fullShare (stAt V c (n + 1)).1
      ∗ owns (c : Thread nD τ) (Memref.whole cc1_scratch1) fullShare (stAt V c (n + 1)).2
      ∗ (∃ d, owns (c : Thread nD τ) (Memref.whole cc1_scratch2) fullShare d)
      ∗ (∃ d, owns (c : Thread nD τ) (Memref.whole cc1_scratch3) fullShare d)
      ∗ (∃ d, owns (c : Thread nD τ) (Memref.whole cc1_scratch4) fullShare d))

/-- The scoped buffers this call does not stage, its scratch set apart. -/
theorem rest_split (c : Dev nD) : (Pipeline.scopedRest spec1 c : sProp 𝕄) ⊢ iprop(stgs (F := F) c
      ∗ (∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ (∃ d, owns (c : Thread nD τ) (Memref.whole cc1_scratch3) fullShare d)
      ∗ (∃ d, owns (c : Thread nD τ) (Memref.whole cc1_scratch4) fullShare d)) := by
  rw [scopedRest1_eq]; unfold stgs; simp only [owns_whole]
  iintro ⟨H1, H2, H3, H4, H5, H6, H7, H8, S0, S1, S2, S3, S4⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [S0]; · iexact S0
  isplitl [S1]; · iexact S1
  isplitl [S2]; · iexact S2
  isplitl [S3]; · iexact S3
  iexact S4

theorem rest_join (c : Dev nD) : iprop(stgs (F := F) c
      ∗ (∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ (∃ d, owns (c : Thread nD τ) (Memref.whole cc1_scratch3) fullShare d)
      ∗ (∃ d, owns (c : Thread nD τ) (Memref.whole cc1_scratch4) fullShare d)) ⊢ (Pipeline.scopedRest spec1 c : sProp 𝕄) := by
  rw [scopedRest1_eq]; unfold stgs; simp only [owns_whole]
  iintro ⟨⟨H1, H2, H3, H4, H5, H6, H7, H8⟩, S0, S1, S2, S3, S4⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iexact S4

/-- The proof data of the call, entered from `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => lossAt V c t
    | ⟨13, _⟩ => accAt V c t
  Φ t := PhiS V c t.val
  q _ := fullShare
  owed _ := 0

theorem before1_of (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hafter : ∀ t, (cfg1.win w).cut (cfg1.grid.coords t) ((dat1 V c).after w t) = (dat1 V c).blockOf w t)
    (t : Fin cfg1.N) (d) : (dat1 V c).before w t d = (dat1 V c).fetched w t d :=
  (dat1 V c).before_in_eq_fetched w hw hlive hclip hafter t d

theorem before1_0 (c : Dev nD) (t : Fin cfg1.N) (d) : (dat1 V c).before 0 t d = iblk1 V c 0 t :=
  (before1_of V c 0 rfl (fun _ => rfl) (fun _ _ _ => rfl) (fun _ => rfl) t d).trans rfl

theorem before1_1 (c : Dev nD) (t : Fin cfg1.N) (d) : (dat1 V c).before 1 t d = iblk1 V c 1 t :=
  (before1_of V c 1 rfl (fun _ => rfl) (fun _ _ _ => rfl) (fun _ => rfl) t d).trans rfl

theorem before1_2 (c : Dev nD) (t : Fin cfg1.N) (d) : (dat1 V c).before 2 t d = iblk1 V c 2 t :=
  (before1_of V c 2 rfl (fun _ => rfl) (fun _ _ _ => rfl) (fun _ => rfl) t d).trans rfl

theorem before1_3 (c : Dev nD) (t : Fin cfg1.N) (d) : (dat1 V c).before 3 t d = iblk1 V c 3 t :=
  (before1_of V c 3 rfl (fun _ => rfl) (fun _ _ _ => rfl) (fun _ => rfl) t d).trans rfl

theorem before1_4 (c : Dev nD) (t : Fin cfg1.N) (d) : (dat1 V c).before 4 t d = iblk1 V c 4 t :=
  (before1_of V c 4 rfl (fun _ => rfl) (fun _ _ _ => rfl) (fun _ => rfl) t d).trans rfl

theorem before1_5 (c : Dev nD) (t : Fin cfg1.N) (d) : (dat1 V c).before 5 t d = iblk1 V c 5 t :=
  (before1_of V c 5 rfl (fun _ => rfl) (fun _ _ _ => rfl) (fun _ => rfl) t d).trans rfl

theorem before1_6 (c : Dev nD) (t : Fin cfg1.N) (d) : (dat1 V c).before 6 t d = iblk1 V c 6 t :=
  (before1_of V c 6 rfl (fun _ => rfl) (fun _ _ _ => rfl) (fun _ => rfl) t d).trans rfl

theorem before1_7 (c : Dev nD) (t : Fin cfg1.N) (d) : (dat1 V c).before 7 t d = iblk1 V c 7 t :=
  (before1_of V c 7 rfl (fun _ => rfl) (fun _ _ _ => rfl) (fun _ => rfl) t d).trans rfl

theorem before1_8 (c : Dev nD) (t : Fin cfg1.N) (d) : (dat1 V c).before 8 t d = iblk1 V c 8 t :=
  (before1_of V c 8 rfl (fun _ => rfl) (fun _ _ _ => rfl) (fun _ => rfl) t d).trans rfl

theorem before1_9 (c : Dev nD) (t : Fin cfg1.N) (d) : (dat1 V c).before 9 t d = iblk1 V c 9 t :=
  (before1_of V c 9 rfl (fun _ => rfl) (fun _ _ _ => rfl) (fun _ => rfl) t d).trans rfl

theorem before1_10 (c : Dev nD) (t : Fin cfg1.N) (d) : (dat1 V c).before 10 t d = iblk1 V c 10 t :=
  (before1_of V c 10 rfl (fun _ => rfl) (fun _ _ _ => rfl) (fun _ => rfl) t d).trans rfl

theorem before1_11 (c : Dev nD) (t : Fin cfg1.N) (d) : (dat1 V c).before 11 t d = iblk1 V c 11 t :=
  (before1_of V c 11 rfl (fun _ => rfl) (fun _ _ _ => rfl) (fun _ => rfl) t d).trans rfl

theorem cond1_iff : ∀ t : Fin cfg1.N, k1_cond1 (grid1.coords t) = 1#1 ↔ t.val % 50 = 0 :=
  (fun t => by
    have ht : t.val < 50 := Nat.lt_of_lt_of_eq t.isLt N_1
    have e0 : (grid1.coords t 0).val = t.val / 1 % 50 := Pipeline.Grid.coords_val t 0 (by decide) rfl
    simp only [k1_cond1, e0]; word_cmp : ∀ t : Fin grid1.N, k1_cond1 (grid1.coords t) = 1#1 ↔ t.val % 50 = 0)

theorem cond2_iff : ∀ t : Fin cfg1.N, k1_cond2 (grid1.coords t) = 1#1 ↔ t.val % 50 = 49 :=
  (fun t => by
    have ht : t.val < 50 := Nat.lt_of_lt_of_eq t.isLt N_1
    have e0 : (grid1.coords t 0).val = t.val / 1 % 50 := Pipeline.Grid.coords_val t 0 (by decide) rfl
    simp only [k1_cond2, e0]; word_cmp : ∀ t : Fin grid1.N, k1_cond2 (grid1.coords t) = 1#1 ↔ t.val % 50 = 49)

theorem idle1_12 (t : Fin cfg1.N) (h : ¬ t.val % 50 = 49) : cfg1.idle 12 (cfg1.grid.coords t) = true := by
  show (!(k1_cond2 (grid1.coords t) == 1#1)) = true
  have := fun h' => h ((cond2_iff t).mp h')
  simpa using this
theorem idle1_13 (t : Fin cfg1.N) (h : ¬ t.val % 50 = 49) : cfg1.idle 13 (cfg1.grid.coords t) = true := by
  show (!(k1_cond2 (grid1.coords t) == 1#1)) = true
  have := fun h' => h ((cond2_iff t).mp h')
  simpa using this
theorem live1_12 (t : Fin cfg1.N) (h : t.val % 50 = 49) : cfg1.idle 12 (cfg1.grid.coords t) = false := by
  show (!(k1_cond2 (grid1.coords t) == 1#1)) = false
  simp [(cond2_iff t).mpr h]
theorem live1_13 (t : Fin cfg1.N) (h : t.val % 50 = 49) : cfg1.idle 13 (cfg1.grid.coords t) = false := by
  show (!(k1_cond2 (grid1.coords t) == 1#1)) = false
  simp [(cond2_iff t).mpr h]
theorem noflush1_12 (t : Fin cfg1.N) (h : ¬ t.val % 50 = 49) : (cfg1.win 12).flush t = false := by
  rw [← Bool.not_eq_true]; exact fun h' => h ((flush1_12 t).mp h')
theorem noflush1_13 (t : Fin cfg1.N) (h : ¬ t.val % 50 = 49) : (cfg1.win 13).flush t = false := by
  rw [← Bool.not_eq_true]; exact fun h' => h ((flush1_13 t).mp h')

/-- The body table's row at point `t`'s slots is the body as `bodyAt1` spells it. -/
theorem defs1_row (t : Fin cfg1.N) :
    defs₀ (F := F) .tc cfg1.body (cfg1.bodyArgs t (cfg1.slots t)) = bodyAt1 t := by
  unfold defs₀; rw [Defs.onTc_tc]

def pre1 (c : Dev nD) (t : Fin cfg1.N) : sProp 𝕄 :=
  iprop((dat1 V c).Φ t.castSucc ∗ (dat1 V c).owesAt () t.castSucc ∗ (∃ d, owns (c : Thread nD τ) (win1_0.stage (cfg1.slots t 0)) fullShare ((dat1 V c).before 0 t d)) ∗ (∃ d, owns (c : Thread nD τ) (win1_1.stage (cfg1.slots t 1)) fullShare ((dat1 V c).before 1 t d)) ∗ (∃ d, owns (c : Thread nD τ) (win1_2.stage (cfg1.slots t 2)) fullShare ((dat1 V c).before 2 t d)) ∗ (∃ d, owns (c : Thread nD τ) (win1_3.stage (cfg1.slots t 3)) fullShare ((dat1 V c).before 3 t d)) ∗ (∃ d, owns (c : Thread nD τ) (win1_4.stage (cfg1.slots t 4)) fullShare ((dat1 V c).before 4 t d)) ∗ (∃ d, owns (c : Thread nD τ) (win1_5.stage (cfg1.slots t 5)) fullShare ((dat1 V c).before 5 t d)) ∗ (∃ d, owns (c : Thread nD τ) (win1_6.stage (cfg1.slots t 6)) fullShare ((dat1 V c).before 6 t d)) ∗ (∃ d, owns (c : Thread nD τ) (win1_7.stage (cfg1.slots t 7)) fullShare ((dat1 V c).before 7 t d)) ∗ (∃ d, owns (c : Thread nD τ) (win1_8.stage (cfg1.slots t 8)) fullShare ((dat1 V c).before 8 t d)) ∗ (∃ d, owns (c : Thread nD τ) (win1_9.stage (cfg1.slots t 9)) fullShare ((dat1 V c).before 9 t d)) ∗ (∃ d, owns (c : Thread nD τ) (win1_10.stage (cfg1.slots t 10)) fullShare ((dat1 V c).before 10 t d)) ∗ (∃ d, owns (c : Thread nD τ) (win1_11.stage (cfg1.slots t 11)) fullShare ((dat1 V c).before 11 t d)) ∗ (∃ d, owns (c : Thread nD τ) (win1_12.stage (cfg1.slots t 12)) fullShare ((dat1 V c).before 12 t d)) ∗ (∃ d, owns (c : Thread nD τ) (win1_13.stage (cfg1.slots t 13)) fullShare ((dat1 V c).before 13 t d)))

def post1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t ∗ (dat1 V c).leavesExact 11 t ∗ (dat1 V c).leavesExact 12 t ∗ (dat1 V c).leavesExact 13 t)

theorem leaves1_0 (c : Dev nD) (t : Fin cfg1.N) : (dat1 V c).leavesExact 0 t = owns (c : Thread nD τ) (win1_0.stage (cfg1.slots t 0)) fullShare (iblk1 V c 0 t) := rfl

theorem leaves1_1 (c : Dev nD) (t : Fin cfg1.N) : (dat1 V c).leavesExact 1 t = owns (c : Thread nD τ) (win1_1.stage (cfg1.slots t 1)) fullShare (iblk1 V c 1 t) := rfl

theorem leaves1_2 (c : Dev nD) (t : Fin cfg1.N) : (dat1 V c).leavesExact 2 t = owns (c : Thread nD τ) (win1_2.stage (cfg1.slots t 2)) fullShare (iblk1 V c 2 t) := rfl

theorem leaves1_3 (c : Dev nD) (t : Fin cfg1.N) : (dat1 V c).leavesExact 3 t = owns (c : Thread nD τ) (win1_3.stage (cfg1.slots t 3)) fullShare (iblk1 V c 3 t) := rfl

theorem leaves1_4 (c : Dev nD) (t : Fin cfg1.N) : (dat1 V c).leavesExact 4 t = owns (c : Thread nD τ) (win1_4.stage (cfg1.slots t 4)) fullShare (iblk1 V c 4 t) := rfl

theorem leaves1_5 (c : Dev nD) (t : Fin cfg1.N) : (dat1 V c).leavesExact 5 t = owns (c : Thread nD τ) (win1_5.stage (cfg1.slots t 5)) fullShare (iblk1 V c 5 t) := rfl

theorem leaves1_6 (c : Dev nD) (t : Fin cfg1.N) : (dat1 V c).leavesExact 6 t = owns (c : Thread nD τ) (win1_6.stage (cfg1.slots t 6)) fullShare (iblk1 V c 6 t) := rfl

theorem leaves1_7 (c : Dev nD) (t : Fin cfg1.N) : (dat1 V c).leavesExact 7 t = owns (c : Thread nD τ) (win1_7.stage (cfg1.slots t 7)) fullShare (iblk1 V c 7 t) := rfl

theorem leaves1_8 (c : Dev nD) (t : Fin cfg1.N) : (dat1 V c).leavesExact 8 t = owns (c : Thread nD τ) (win1_8.stage (cfg1.slots t 8)) fullShare (iblk1 V c 8 t) := rfl

theorem leaves1_9 (c : Dev nD) (t : Fin cfg1.N) : (dat1 V c).leavesExact 9 t = owns (c : Thread nD τ) (win1_9.stage (cfg1.slots t 9)) fullShare (iblk1 V c 9 t) := rfl

theorem leaves1_10 (c : Dev nD) (t : Fin cfg1.N) : (dat1 V c).leavesExact 10 t = owns (c : Thread nD τ) (win1_10.stage (cfg1.slots t 10)) fullShare (iblk1 V c 10 t) := rfl

theorem leaves1_11 (c : Dev nD) (t : Fin cfg1.N) : (dat1 V c).leavesExact 11 t = owns (c : Thread nD τ) (win1_11.stage (cfg1.slots t 11)) fullShare (iblk1 V c 11 t) := rfl

theorem leaves1_12_idle (c : Dev nD) (t : Fin cfg1.N) (h : ¬ t.val % 50 = 49) :
    (dat1 V c).leavesExact 12 t = iprop(∃ d, owns (c : Thread nD τ) (win1_12.stage (cfg1.slots t 12)) fullShare ((dat1 V c).before 12 t d)) := by
  unfold Dat.leavesExact; rw [idle1_12 t h, noflush1_12 t h]
theorem leaves1_12_last (c : Dev nD) (t : Fin cfg1.N) (h : t.val % 50 = 49) :
    (dat1 V c).leavesExact 12 t = owns (c : Thread nD τ) (win1_12.stage (cfg1.slots t 12)) fullShare (lossAt V c t) := by
  unfold Dat.leavesExact; rw [live1_12 t h]; rfl

theorem leaves1_13_idle (c : Dev nD) (t : Fin cfg1.N) (h : ¬ t.val % 50 = 49) :
    (dat1 V c).leavesExact 13 t = iprop(∃ d, owns (c : Thread nD τ) (win1_13.stage (cfg1.slots t 13)) fullShare ((dat1 V c).before 13 t d)) := by
  unfold Dat.leavesExact; rw [idle1_13 t h, noflush1_13 t h]
theorem leaves1_13_last (c : Dev nD) (t : Fin cfg1.N) (h : t.val % 50 = 49) :
    (dat1 V c).leavesExact 13 t = owns (c : Thread nD τ) (win1_13.stage (cfg1.slots t 13)) fullShare (accAt V c t) := by
  unfold Dat.leavesExact; rw [live1_13 t h]; rfl

theorem point_A (c : Dev nD) (t : Fin cfg1.N) (h0 : t.val % 50 = 0) (h1 : ¬ t.val % 50 = 49) :
    pre1 V c t ⊢ wp frame (wpE (defs₀ (F := F)) Variants.none c none) Set.univ (bodyAt1 t) (fun _ => post1 V c t) := by
  have hN : t.val < 50 := Nat.lt_of_lt_of_eq t.isLt N_1
  unfold pre1 post1 bodyAt1
  simp only [before1_0, before1_1, before1_2, before1_3, before1_4, before1_5, before1_6, before1_7, before1_8, before1_9, before1_10, before1_11]
  rw [leaves1_0, leaves1_1, leaves1_2, leaves1_3, leaves1_4, leaves1_5, leaves1_6, leaves1_7, leaves1_8, leaves1_9, leaves1_10, leaves1_11, leaves1_12_idle V c t h1, leaves1_13_idle V c t h1]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  obtain hz : t.val = 0 := by omega
  rw [PhiS, stAt_succ, show stAt V c t.val = stAt V c 0 from by rw [hz], show PhiS V c t.val = Pipeline.scopedRest spec1 c from by rw [hz]; rfl]
  refine BIBase.Entails.trans (sep_mono (rest_split (F := F) c) .rfl) ?_
  iintro ⟨⟨Hg, S0, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid1.coords t) _ _ _ _ _ _ _ _ _ _ _ _ _ _ _ _ _ _ _ _ _ _ _ _ _ _ _ _ _ _ _ _ _ _ _ _ _ _ ((cond1_iff t).mpr h0) (fun h => h1 ((cond2_iff t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [Hg S0 S1 S2 S3 S4]
  · isplitl [Hg]; · iexact Hg
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexists _; iexact H13

theorem point_B (c : Dev nD) (t : Fin cfg1.N) (h0 : ¬ t.val % 50 = 0) (h1 : ¬ t.val % 50 = 49) :
    pre1 V c t ⊢ wp frame (wpE (defs₀ (F := F)) Variants.none c none) Set.univ (bodyAt1 t) (fun _ => post1 V c t) := by
  have hN : t.val < 50 := Nat.lt_of_lt_of_eq t.isLt N_1
  unfold pre1 post1 bodyAt1
  simp only [before1_0, before1_1, before1_2, before1_3, before1_4, before1_5, before1_6, before1_7, before1_8, before1_9, before1_10, before1_11]
  rw [leaves1_0, leaves1_1, leaves1_2, leaves1_3, leaves1_4, leaves1_5, leaves1_6, leaves1_7, leaves1_8, leaves1_9, leaves1_10, leaves1_11, leaves1_12_idle V c t h1, leaves1_13_idle V c t h1]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  obtain ⟨k, hk⟩ : ∃ k, t.val = k + 1 := ⟨t.val - 1, by omega⟩
  rw [show PhiS V c t.val = iprop(stgs (F := F) c ∗ owns (c : Thread nD τ) (Memref.whole cc1_scratch0) fullShare (stAt V c t.val).1
      ∗ owns (c : Thread nD τ) (Memref.whole cc1_scratch1) fullShare (stAt V c t.val).2
      ∗ (∃ d, owns (c : Thread nD τ) (Memref.whole cc1_scratch2) fullShare d)
      ∗ (∃ d, owns (c : Thread nD τ) (Memref.whole cc1_scratch3) fullShare d)
      ∗ (∃ d, owns (c : Thread nD τ) (Memref.whole cc1_scratch4) fullShare d)) from by rw [hk]; rfl, PhiS, stAt_succ]
  iintro ⟨⟨Hg, S0, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runB c (grid1.coords t) _ _ _ _ _ _ _ _ _ _ _ _ _ _ _ _ _ _ _ _ _ _ _ _ _ _ _ _ _ _ _ _ _ _ _ _ _ _ (fun h => h0 ((cond1_iff t).mp h)) (fun h => h1 ((cond2_iff t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [Hg S0 S1 S2 S3 S4]
  · isplitl [Hg]; · iexact Hg
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iexists _; iexact H13

theorem point_C (c : Dev nD) (t : Fin cfg1.N) (h0 : ¬ t.val % 50 = 0) (h1 : t.val % 50 = 49) :
    pre1 V c t ⊢ wp frame (wpE (defs₀ (F := F)) Variants.none c none) Set.univ (bodyAt1 t) (fun _ => post1 V c t) := by
  have hN : t.val < 50 := Nat.lt_of_lt_of_eq t.isLt N_1
  unfold pre1 post1 bodyAt1
  simp only [before1_0, before1_1, before1_2, before1_3, before1_4, before1_5, before1_6, before1_7, before1_8, before1_9, before1_10, before1_11]
  rw [leaves1_0, leaves1_1, leaves1_2, leaves1_3, leaves1_4, leaves1_5, leaves1_6, leaves1_7, leaves1_8, leaves1_9, leaves1_10, leaves1_11, leaves1_12_last V c t h1, leaves1_13_last V c t h1]
  rw [show (dat1 V c).owesAt () t.succ = (dat1 V c).owesAt () t.castSucc from rfl]
  rw [show (dat1 V c).Φ t.succ = PhiS V c (t.val + 1) from rfl, show (dat1 V c).Φ t.castSucc = PhiS V c t.val from rfl]
  obtain ⟨k, hk⟩ : ∃ k, t.val = k + 1 := ⟨t.val - 1, by omega⟩
  rw [show PhiS V c t.val = iprop(stgs (F := F) c ∗ owns (c : Thread nD τ) (Memref.whole cc1_scratch0) fullShare (stAt V c t.val).1
      ∗ owns (c : Thread nD τ) (Memref.whole cc1_scratch1) fullShare (stAt V c t.val).2
      ∗ (∃ d, owns (c : Thread nD τ) (Memref.whole cc1_scratch2) fullShare d)
      ∗ (∃ d, owns (c : Thread nD τ) (Memref.whole cc1_scratch3) fullShare d)
      ∗ (∃ d, owns (c : Thread nD τ) (Memref.whole cc1_scratch4) fullShare d)) from by rw [hk]; rfl, PhiS, stAt_succ]
  iintro ⟨⟨Hg, S0, S1, S2, S3, S4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC c (grid1.coords t) _ _ _ _ _ _ _ _ _ _ _ _ _ _ _ _ _ _ _ _ _ _ _ _ _ _ _ _ _ _ _ _ _ _ _ _ _ _ (fun h => h0 ((cond1_iff t).mp h)) ((cond2_iff t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [Hg S0 S1 S2 S3 S4]
  · isplitl [Hg]; · iexact Hg
    isplitl [S0]; · iexact S0
    isplitl [S1]; · iexact S1
    isplitl [S2]; · iexact S2
    isplitl [S3]; · iexact S3
    iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sound1 (c : Dev nD) (t : Fin cfg1.N) :
    pre1 V c t ⊢ wp frame (wpE (defs₀ (F := F)) Variants.none c none) Set.univ (bodyAt1 t) (fun _ => post1 V c t) := by
  by_cases h0 : t.val % 50 = 0
  · exact point_A V c t h0 (by omega)
  · by_cases h1 : t.val % 50 = 49
    · exact point_C V c t h0 h1
    · exact point_B V c t h0 h1

/-- The body obligation of the call, at every point. -/
theorem body_obligation1 (c : Dev nD) : BodyObligation (dat1 V c) (defs₀ (F := F)) Variants.none () Set.univ := fun t => by
  rw [bigSep_W1, bigSep_W1, defs1_row]
  exact triple_restated (sound1 V c t) rfl .rfl fun _ => .rfl

/-- The scratch forgotten after the last point. -/
theorem Phi_last1 (c : Dev nD) : (dat1 V c).Φ (Fin.last cfg1.N) ⊢ Pipeline.scopedRest spec1 c := by
  rw [show (dat1 V c).Φ (Fin.last cfg1.N) = PhiS V c (49 + 1) from congrArg (PhiS V c) (show cfg1.N = 50 from N_1), PhiS]
  refine BIBase.Entails.trans ?_ (rest_join (F := F) c)
  iintro ⟨Hg, S0, S1, S2, S3, S4⟩
  isplitl [Hg]; · iexact Hg
  isplitl [S0]; · iexists _; iexact S0
  isplitl [S1]; · iexists _; iexact S1
  isplitl [S2]; · iexact S2
  isplitl [S3]; · iexact S3
  iexact S4

end Cert.KernelIdeal.Gen

end
-- ==== Proof.ZRegion.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first kernel call as a region of the program -/

set_option maxHeartbeats 1000000 in
/-- The first kernel's body on whole buffers: the block of inputs through the two dense layers. -/
theorem zrun (c : Dev nD) (E : Set ℕ) (i : grid0.Coords) (arg2 : Memref sig .tc .vmem S1x1024x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S1x1024x64 .f32) (harg7 : arg7.IsWhole)
    (x0 : Vec F S1x1024x128 .f32) (x1 : Vec F S128x256 .f32) (x2 : Vec F S1x256 .f32) (x3 : Vec F S256x64 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 x0 x1 x2 x3 x4)) -∗ K ⟨⟩))
      ⊢ wp frame (wpE (defs₀ (F := F)) Variants.none c none) E (cc0_z_precompute i arg2 harg2 arg3 harg3 arg4 harg4 arg5 harg5 arg6 harg6 arg7 harg7) K := by
  simp only [cc0_z_precompute_eq_skeleton]; unfold cc0_z_precompute_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk

  isplitl [H0]
  · iexists f0; isplitr; · ipureintro; rfl
    iexact H0

  isplitl [H1]
  · iexists f1; isplitr; · ipureintro; rfl
    iexact H1

  isplitl [H2]
  · iexists f2; isplitr; · ipureintro; rfl
    iexact H2

  isplitl [H3]
  · iexists f3; isplitr; · ipureintro; rfl
    iexact H3

  isplitl [H4]
  · iexists f4; isplitr; · ipureintro; rfl
    iexact H4

  iexists _; isplitr
  swap; · iexact H5
  ipureintro
  refine (View.read_writes_full _ _ _ _ _).trans ?_
  exact congr (congr (congr (congrArg₂ k0_pay1 (View.readAt_full _ _ _) (View.readAt_full _ _ _)) (View.readAt_full _ _ _)) (View.readAt_full _ _ _)) (View.readAt_full _ _ _)

/-- Window `w`'s block at point `t`, read off the array's contents on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the call, entered from `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.scopedRest spec0 c
  q _ := fullShare
  owed _ := 0

theorem before0_of (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dat0 V c).after w t) = (dat0 V c).blockOf w t)
    (t : Fin cfg0.N) (d) : (dat0 V c).before w t d = (dat0 V c).fetched w t d :=
  (dat0 V c).before_in_eq_fetched w hw hlive hclip hafter t d

theorem before0_0 (c : Dev nD) (t : Fin cfg0.N) (d) : (dat0 V c).before 0 t d = iblk0 V c 0 t :=
  (before0_of V c 0 rfl (fun _ => rfl) (fun _ _ _ => rfl) (fun _ => rfl) t d).trans rfl

theorem before0_1 (c : Dev nD) (t : Fin cfg0.N) (d) : (dat0 V c).before 1 t d = iblk0 V c 1 t :=
  (before0_of V c 1 rfl (fun _ => rfl) (fun _ _ _ => rfl) (fun _ => rfl) t d).trans rfl

theorem before0_2 (c : Dev nD) (t : Fin cfg0.N) (d) : (dat0 V c).before 2 t d = iblk0 V c 2 t :=
  (before0_of V c 2 rfl (fun _ => rfl) (fun _ _ _ => rfl) (fun _ => rfl) t d).trans rfl

theorem before0_3 (c : Dev nD) (t : Fin cfg0.N) (d) : (dat0 V c).before 3 t d = iblk0 V c 3 t :=
  (before0_of V c 3 rfl (fun _ => rfl) (fun _ _ _ => rfl) (fun _ => rfl) t d).trans rfl

theorem before0_4 (c : Dev nD) (t : Fin cfg0.N) (d) : (dat0 V c).before 4 t d = iblk0 V c 4 t :=
  (before0_of V c 4 rfl (fun _ => rfl) (fun _ _ _ => rfl) (fun _ => rfl) t d).trans rfl

theorem defs0_row (t : Fin cfg0.N) :
    defs₀ (F := F) .tc cfg0.body (cfg0.bodyArgs t (cfg0.slots t)) = bodyAt0 t := by
  unfold defs₀; rw [Defs.onTc_tc]

def pre0 (c : Dev nD) (t : Fin cfg0.N) : sProp 𝕄 :=
  iprop((dat0 V c).Φ t.castSucc ∗ (dat0 V c).owesAt () t.castSucc ∗ (∃ d, owns (c : Thread nD τ) (win0_0.stage (cfg0.slots t 0)) fullShare ((dat0 V c).before 0 t d)) ∗ (∃ d, owns (c : Thread nD τ) (win0_1.stage (cfg0.slots t 1)) fullShare ((dat0 V c).before 1 t d)) ∗ (∃ d, owns (c : Thread nD τ) (win0_2.stage (cfg0.slots t 2)) fullShare ((dat0 V c).before 2 t d)) ∗ (∃ d, owns (c : Thread nD τ) (win0_3.stage (cfg0.slots t 3)) fullShare ((dat0 V c).before 3 t d)) ∗ (∃ d, owns (c : Thread nD τ) (win0_4.stage (cfg0.slots t 4)) fullShare ((dat0 V c).before 4 t d)) ∗ (∃ d, owns (c : Thread nD τ) (win0_5.stage (cfg0.slots t 5)) fullShare ((dat0 V c).before 5 t d)))

def post0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t)

theorem leaves0_0 (c : Dev nD) (t : Fin cfg0.N) : (dat0 V c).leavesExact 0 t = owns (c : Thread nD τ) (win0_0.stage (cfg0.slots t 0)) fullShare (iblk0 V c 0 t) := rfl

theorem leaves0_1 (c : Dev nD) (t : Fin cfg0.N) : (dat0 V c).leavesExact 1 t = owns (c : Thread nD τ) (win0_1.stage (cfg0.slots t 1)) fullShare (iblk0 V c 1 t) := rfl

theorem leaves0_2 (c : Dev nD) (t : Fin cfg0.N) : (dat0 V c).leavesExact 2 t = owns (c : Thread nD τ) (win0_2.stage (cfg0.slots t 2)) fullShare (iblk0 V c 2 t) := rfl

theorem leaves0_3 (c : Dev nD) (t : Fin cfg0.N) : (dat0 V c).leavesExact 3 t = owns (c : Thread nD τ) (win0_3.stage (cfg0.slots t 3)) fullShare (iblk0 V c 3 t) := rfl

theorem leaves0_4 (c : Dev nD) (t : Fin cfg0.N) : (dat0 V c).leavesExact 4 t = owns (c : Thread nD τ) (win0_4.stage (cfg0.slots t 4)) fullShare (iblk0 V c 4 t) := rfl

theorem leaves0_5 (c : Dev nD) (t : Fin cfg0.N) : (dat0 V c).leavesExact 5 t = owns (c : Thread nD τ) (win0_5.stage (cfg0.slots t 5)) fullShare (k0_pay1 (iblk0 V c 0 t) (iblk0 V c 1 t) (iblk0 V c 2 t) (iblk0 V c 3 t) (iblk0 V c 4 t)) := rfl

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [leaves0_0, leaves0_1, leaves0_2, leaves0_3, leaves0_4, leaves0_5]
  rw [show (dat0 V c).owesAt () t.succ = (dat0 V c).owesAt () t.castSucc from rfl,
    show (dat0 V c).Φ t.succ = (dat0 V c).Φ t.castSucc from rfl]
  iintro ⟨Hg, Ho, ⟨%d0, H0⟩, ⟨%d1, H1⟩, ⟨%d2, H2⟩, ⟨%d3, H3⟩, ⟨%d4, H4⟩, ⟨%d5, H5⟩⟩
  iapply (zrun c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  iexact H5

/-- The body obligation of the call, at every point. -/
theorem body_obligation0 (c : Dev nD) : BodyObligation (dat0 V c) (defs₀ (F := F)) Variants.none () Set.univ := fun t => by
  rw [bigSep_W0, bigSep_W0, defs0_row]
  exact triple_restated (sound0 V c t) rfl .rfl fun _ => .rfl

end Cert.KernelIdeal.Gen

end
-- ==== Proof.WholeRun.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Launch
public import proofs.«01_k».proof.Proof.ScanRegion
public import proofs.«01_k».proof.Proof.ZRegion
public import proofs.«01_k».proof.Proof.Gen.KernelIdeal.Regions
public import Idealize.ShloMosaic.Lib.Pipeline.RegionsLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run: both kernel calls between their host operations -/

variable (VA VB : (c : Dev nD) → (b : Ref sig .tc) → Buf (Elt F) ((c : Thread nD τ).loc b))

/-- The two calls' proof data, entered from `VA` and from `VB`. -/
def pdats : (p : Fin 2) → (c : Dev nD) → Dat τ (Elt F) Unit ℕ (UR sig nD τ) ℕ (cfgs p) c
  | ⟨0, _⟩ => dat0 VA
  | ⟨1, _⟩ => dat1 VB

abbrev L : GSem nD τ sig → Finset Unit := fun _ => ∅
abbrev lv : GSem nD τ sig → Unit → ℕ := fun _ _ => 0

/-- What rides along beside the buffers: the core owes nothing. -/
abbrev owesNone (c : Dev nD) : sProp 𝕄 := iprop(∃ W, owes (c : Thread nD τ) (0 : CellTallies nD τ sig Unit) W)

set_option maxHeartbeats 2000000 in
/-- After the call each window's array is at `Vp`. -/
theorem ends0 (V : (c : Dev nD) → (b : Ref sig .tc) → Buf (Elt F) ((c : Thread nD τ).loc b)) (Vp : (c : Dev nD) → (b : Ref sig .tc) → Buf (Elt F) ((c : Thread nD τ).loc b))
    (hout5 : ∀ c, Vp c main_v3 = (dat0 V c).arrAt 5 cfg0.N)
    (hne : ∀ c (b : Ref sig .tc), b ≠ main_v3 → Vp c b = V c b) (c : Dev nD) (w : Fin cfg0.W) :
    (dat0 V c).arrAt w cfg0.N = Vp c (Pipeline.arrRef spec0 w) :=
  match w with
    | ⟨0, _⟩ => ((dat0 V c).arrAt_in 0 rfl _).trans (hne c main_v0 (by decide)).symm
    | ⟨1, _⟩ => ((dat0 V c).arrAt_in 1 rfl _).trans (hne c main_arg2 (by decide)).symm
    | ⟨2, _⟩ => ((dat0 V c).arrAt_in 2 rfl _).trans (hne c main_v1 (by decide)).symm
    | ⟨3, _⟩ => ((dat0 V c).arrAt_in 3 rfl _).trans (hne c main_arg4 (by decide)).symm
    | ⟨4, _⟩ => ((dat0 V c).arrAt_in 4 rfl _).trans (hne c main_v2 (by decide)).symm
    | ⟨5, _⟩ => (hout5 c).symm

set_option backward.isDefEq.respectTransparency.types false in
/-- Call 0 over the state "every unscoped buffer at `VA c`": left at any `Vp` that has the call's results and agrees with
    `VA` elsewhere. -/
def reg0 (Vp : (c : Dev nD) → (b : Ref sig .tc) → Buf (Elt F) ((c : Thread nD τ).loc b))
    (hout5 : ∀ c, Vp c main_v3 = (dat0 VA c).arrAt 5 cfg0.N)
    (hne : ∀ c (b : Ref sig .tc), b ≠ main_v3 → Vp c b = VA c b) :
    Pipeline.RegionSeg (pcfgs (F := F)) adm (pdats VA VB) () defs₀ Variants.none L lv 0 where
  win := launch0.win.to₀
  block_pos := launch0.block_pos
  stage_whole := launch0.stage_whole
  K := PEmpty
  osem k := k.elim
  ho := Pipeline.OwnSemFacts.none _
  hbody c := (body_obligation0 VA c).loose
  hwaits := Pipeline.hwaits_of_owed_zero _ _ _ _ L lv 0 fun _ _ => rfl
  pre c := iprop(unscopedBufs c (VA c) ∗ owesNone c)
  post c := iprop(unscopedBufs c (Vp c) ∗ owesNone c)
  X _ := BI.emp
  Y _ := BI.emp
  Z c := Pipeline.unscopedRest (Ix := Unit) (Name := ℕ) (U := UR sig nD τ) (Lvl := ℕ) spec0 c (VA c)
  hentry c := by
    rw [Pipeline.ownSems0_none]
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = Pipeline.scopedRest spec0 c from rfl]
    iintro ⟨-, -, Hr⟩; iexact Hr
  hout c := by
    show Pipeline.scopedRest spec0 c ⊢ _
    rw [Pipeline.ownSems0_none]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats VA VB) ((pdats VA VB 0 c).share_full fun _ => rfl) (VA c) (Vp c) ((pdats VA VB 0 c).arrAt · cfg0.N)
      (fun w => ends0 VA Vp hout5 hne c w)
      (fun b hb => hne c b (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg0_pre (Vp : (c : Dev nD) → (b : Ref sig .tc) → Buf (Elt F) ((c : Thread nD τ).loc b)) (h5) (hne) (c : Dev nD) :
    (reg0 VA VB Vp h5 hne).pre c = iprop(unscopedBufs c (VA c) ∗ owesNone c) := rfl
theorem reg0_post (Vp : (c : Dev nD) → (b : Ref sig .tc) → Buf (Elt F) ((c : Thread nD τ).loc b)) (h5) (hne) (c : Dev nD) :
    (reg0 VA VB Vp h5 hne).post c = iprop(unscopedBufs c (Vp c) ∗ owesNone c) := rfl

set_option maxHeartbeats 2000000 in
/-- After the call each window's array is at `Vp`. -/
theorem ends1 (V : (c : Dev nD) → (b : Ref sig .tc) → Buf (Elt F) ((c : Thread nD τ).loc b)) (Vp : (c : Dev nD) → (b : Ref sig .tc) → Buf (Elt F) ((c : Thread nD τ).loc b))
    (hout12 : ∀ c, Vp c main_v30_0 = (dat1 V c).arrAt 12 cfg1.N) (hout13 : ∀ c, Vp c main_v30_1 = (dat1 V c).arrAt 13 cfg1.N)
    (hne : ∀ c (b : Ref sig .tc), b ≠ main_v30_0 → b ≠ main_v30_1 → Vp c b = V c b) (c : Dev nD) (w : Fin cfg1.W) :
    (dat1 V c).arrAt w cfg1.N = Vp c (Pipeline.arrRef spec1 w) :=
  match w with
    | ⟨0, _⟩ => ((dat1 V c).arrAt_in 0 rfl _).trans (hne c main_v18 (by decide) (by decide)).symm
    | ⟨1, _⟩ => ((dat1 V c).arrAt_in 1 rfl _).trans (hne c main_v24 (by decide) (by decide)).symm
    | ⟨2, _⟩ => ((dat1 V c).arrAt_in 2 rfl _).trans (hne c main_v4 (by decide) (by decide)).symm
    | ⟨3, _⟩ => ((dat1 V c).arrAt_in 3 rfl _).trans (hne c main_v25 (by decide) (by decide)).symm
    | ⟨4, _⟩ => ((dat1 V c).arrAt_in 4 rfl _).trans (hne c main_v26 (by decide) (by decide)).symm
    | ⟨5, _⟩ => ((dat1 V c).arrAt_in 5 rfl _).trans (hne c main_v6 (by decide) (by decide)).symm
    | ⟨6, _⟩ => ((dat1 V c).arrAt_in 6 rfl _).trans (hne c main_v8 (by decide) (by decide)).symm
    | ⟨7, _⟩ => ((dat1 V c).arrAt_in 7 rfl _).trans (hne c main_v27 (by decide) (by decide)).symm
    | ⟨8, _⟩ => ((dat1 V c).arrAt_in 8 rfl _).trans (hne c main_v28 (by decide) (by decide)).symm
    | ⟨9, _⟩ => ((dat1 V c).arrAt_in 9 rfl _).trans (hne c main_v10 (by decide) (by decide)).symm
    | ⟨10, _⟩ => ((dat1 V c).arrAt_in 10 rfl _).trans (hne c main_v29 (by decide) (by decide)).symm
    | ⟨11, _⟩ => ((dat1 V c).arrAt_in 11 rfl _).trans (hne c main_v12 (by decide) (by decide)).symm
    | ⟨12, _⟩ => (hout12 c).symm
    | ⟨13, _⟩ => (hout13 c).symm

set_option backward.isDefEq.respectTransparency.types false in
/-- Call 1 over the state "every unscoped buffer at `VB c`": left at any `Vp` that has the call's results and agrees with
    `VB` elsewhere. -/
def reg1 (Vp : (c : Dev nD) → (b : Ref sig .tc) → Buf (Elt F) ((c : Thread nD τ).loc b))
    (hout12 : ∀ c, Vp c main_v30_0 = (dat1 VB c).arrAt 12 cfg1.N) (hout13 : ∀ c, Vp c main_v30_1 = (dat1 VB c).arrAt 13 cfg1.N)
    (hne : ∀ c (b : Ref sig .tc), b ≠ main_v30_0 → b ≠ main_v30_1 → Vp c b = VB c b) :
    Pipeline.RegionSeg (pcfgs (F := F)) adm (pdats VA VB) () defs₀ Variants.none L lv 1 where
  win := launch1.win.to₀
  block_pos := launch1.block_pos
  stage_whole := launch1.stage_whole
  K := PEmpty
  osem k := k.elim
  ho := Pipeline.OwnSemFacts.none _
  hbody c := (body_obligation1 VB c).loose
  hwaits := Pipeline.hwaits_of_owed_zero _ _ _ _ L lv 1 fun _ _ => rfl
  pre c := iprop(unscopedBufs c (VB c) ∗ owesNone c)
  post c := iprop(unscopedBufs c (Vp c) ∗ owesNone c)
  X _ := BI.emp
  Y _ := BI.emp
  Z c := Pipeline.unscopedRest (Ix := Unit) (Name := ℕ) (U := UR sig nD τ) (Lvl := ℕ) spec1 c (VB c)
  hentry c := by
    rw [Pipeline.ownSems0_none]
    have hsplit := Pipeline.arrays_of_unscopedBufs (p := 1) (pcfgs (F := F)) adm (pdats VA VB) launch1.win launch1.arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = Pipeline.scopedRest spec1 c from rfl]
    iintro ⟨-, -, Hr⟩; iexact Hr
  hout c := by
    refine BIBase.Entails.trans (Phi_last1 VB c) ?_
    rw [Pipeline.ownSems0_none]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats VA VB) ((pdats VA VB 1 c).share_full fun _ => rfl) (VB c) (Vp c) ((pdats VA VB 1 c).arrAt · cfg1.N)
      (fun w => ends1 VB Vp hout12 hout13 hne c w)
      (fun b hb => hne c b (fun h => hb (h ▸ Finset.mem_image.mpr ⟨12, Finset.mem_univ _, rfl⟩)) (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg1_pre (Vp : (c : Dev nD) → (b : Ref sig .tc) → Buf (Elt F) ((c : Thread nD τ).loc b)) (h12) (h13) (hne) (c : Dev nD) :
    (reg1 VA VB Vp h12 h13 hne).pre c = iprop(unscopedBufs c (VB c) ∗ owesNone c) := rfl
theorem reg1_post (Vp : (c : Dev nD) → (b : Ref sig .tc) → Buf (Elt F) ((c : Thread nD τ).loc b)) (h12) (h13) (hne) (c : Dev nD) :
    (reg1 VA VB Vp h12 h13 hne).post c = iprop(unscopedBufs c (Vp c) ∗ owesNone c) := rfl

/-! ## The contents of the buffers, item by item -/

variable (m : (ℓ : Loc nD τ sig) → Buf (Elt F) ℓ) (ρ : Dev nD → PrngReg)

/-- What the first call is entered from. -/
def entA (c : Dev nD) (b : Ref sig .tc) : Buf (Elt F) ((c : Thread nD τ).loc b) := V1 m c b
/-- The first call's result. -/
def resZ (c : Dev nD) : Buf (Elt F) ((c : Thread nD τ).loc main_v3) := (dat0 (entA m) c).arrAt 5 cfg0.N
/-- The buffers after the second host stretch. -/
def midV (c : Dev nD) : Valuation τ sig (Elt F) := StableHlo.after hostOps1 (Function.update (V1 m c) main_v3 (resZ m c))
/-- What the second call is entered from. -/
def entB (c : Dev nD) (b : Ref sig .tc) : Buf (Elt F) ((c : Thread nD τ).loc b) := midV m c b
/-- The second call's results. -/
def resL (c : Dev nD) : Buf (Elt F) ((c : Thread nD τ).loc main_v30_0) := (dat1 (entB m) c).arrAt 12 cfg1.N
def resC (c : Dev nD) : Buf (Elt F) ((c : Thread nD τ).loc main_v30_1) := (dat1 (entB m) c).arrAt 13 cfg1.N

/-- What the two calls leave. -/
def outs : Outs (F := F) := fun n r c => match n with
  | 2 => Function.update (V1 m c) main_v3 (resZ m c) r
  | _ => Function.update (Function.update (midV m c) main_v30_0 (resL m c)) main_v30_1 (resC m c) r

theorem outs_z (c : Dev nD) : outs m 2 main_v3 c = resZ m c := by
  unfold outs; exact Function.update_self _ _ _
theorem outs_l (c : Dev nD) : outs m 4 main_v30_0 c = resL m c := by
  unfold outs
  refine (Function.update_of_ne ?_ _ _).trans (Function.update_self _ _ _)
  exact StableHlo.devRef_ne_of_ne (by decide)
theorem outs_c (c : Dev nD) : outs m 4 main_v30_1 c = resC m c := by
  unfold outs; exact Function.update_self _ _ _

theorem V3_eq (c : Dev nD) : V3 m (outs m) c = midV m c := by
  show StableHlo.after hostOps1 (Function.update (V1 m c) main_v3 (outs m 2 main_v3 c)) = _
  rw [outs_z]; rfl

/-- What the two calls leave the buffers at. -/
def aftA (c : Dev nD) (b : Ref sig .tc) : Buf (Elt F) ((c : Thread nD τ).loc b) := V2 m (outs m) c b
def aftB (c : Dev nD) (b : Ref sig .tc) : Buf (Elt F) ((c : Thread nD τ).loc b) := V4 m (outs m) c b

theorem aft_z (c : Dev nD) : aftA m c main_v3 = (dat0 (entA m) c).arrAt 5 cfg0.N := by
  show V2 m (outs m) c main_v3 = _
  exact (Function.update_self _ _ _).trans (outs_z m c)
theorem aft_l (c : Dev nD) : aftB m c main_v30_0 = (dat1 (entB m) c).arrAt 12 cfg1.N := by
  show V4 m (outs m) c main_v30_0 = _
  exact (Function.update_of_ne (StableHlo.devRef_ne_of_ne (by decide)) _ _).trans ((Function.update_self _ _ _).trans (outs_l m c))
theorem aft_c (c : Dev nD) : aftB m c main_v30_1 = (dat1 (entB m) c).arrAt 13 cfg1.N := by
  show V4 m (outs m) c main_v30_1 = _
  exact (Function.update_self _ _ _).trans (outs_c m c)
theorem keep0 (c : Dev nD) (b : Ref sig .tc) (hb : b ≠ main_v3) : aftA m c b = entA m c b :=
  V2_of m (outs m) c b (by simpa using hb)
theorem keep1 (c : Dev nD) (b : Ref sig .tc) (h0 : b ≠ main_v30_0) (h1 : b ≠ main_v30_1) : aftB m c b = entB m c b :=
  (V4_of m (outs m) c b (by simp [h0, h1])).trans (congrFun (V3_eq m c) b)

/-- The first call between its thread states. -/
abbrev R0 := reg0 (entA m) (entB m) (aftA m) (aft_z m) (keep0 m)
/-- The second call between its thread states. -/
abbrev R1 := reg1 (entA m) (entB m) (aftB m) (aft_l m) (aft_c m) (keep1 m)

theorem hpre0 (c : Dev nD) : iprop(StableHlo.held (c : Thread nD τ) (Pipeline.ucRefs τ sig) (V1 m c) ∗ owesNone c) ⊢ (R0 m).pre c := by
  rw [← Pipeline.unscopedBufs_held c (V1 m c), reg0_pre]; exact .rfl
theorem hpost0 (c : Dev nD) : (R0 m).post c ⊢ iprop(StableHlo.held (c : Thread nD τ) (Pipeline.ucRefs τ sig) (V2 m (outs m) c) ∗ owesNone c) := by
  rw [← Pipeline.unscopedBufs_held c (V2 m (outs m) c), reg0_post]; exact .rfl
theorem hpre1 (c : Dev nD) : iprop(StableHlo.held (c : Thread nD τ) (Pipeline.ucRefs τ sig) (V3 m (outs m) c) ∗ owesNone c) ⊢ (R1 m).pre c := by
  rw [V3_eq, ← Pipeline.unscopedBufs_held c (midV m c), reg1_pre]; exact .rfl
theorem hpost1 (c : Dev nD) : (R1 m).post c ⊢ iprop(StableHlo.held (c : Thread nD τ) (Pipeline.ucRefs τ sig) (V4 m (outs m) c) ∗ owesNone c) := by
  rw [← Pipeline.unscopedBufs_held c (V4 m (outs m) c), reg1_post]; exact .rfl

theorem start (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
    ⊢ (iprop(StableHlo.held (c : Thread nD τ) (Pipeline.ucRefs τ sig) (V0 m c) ∗ owesNone c) : sProp 𝕄) := by
  rw [← Pipeline.unscopedBufs_held c (V0 m c)]
  iintro ⟨Hb, -, Ho, -⟩
  isplitl [Hb]; · iexact Hb
  iexists _; iexact Ho

set_option backward.isDefEq.respectTransparency.types false in
/-- THE RUN. Every weakly fair execution from memory `m` with zero counters ends, with every unscoped buffer at the last
    contents and every counter back at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V5 m (outs m) c b) ∧ r.2.sem = fun _ => 0) := by
  refine Pipeline.θ_run_regions_kit_dev_sems (pcfgs (F := F)) adm (pdats (entA m) (entB m)) () cellOf_inj emb₁ defs₀ Variants.none L lv m ρ main
    (segs m (outs m) Variants.none L lv (fun _ c => owesNone c) () (pdats (entA m) (entB m)) (R0 m) (R1 m))
    (fun c Q => by
      rewrite [main_chain c, Pipeline.Seg.run_eq_chain]
      exact .rfl)
    (fun c => by simp only [segs, Pipeline.Seg.pipes_host, Pipeline.Seg.pipes_region, Pipeline.Seg.pipes_nil]; decide) (fun _ => 0)
    (fun _ _ => rfl) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owesNone c))
    (Tₙ := fun c => StableHlo.held (c : Thread nD τ) (Pipeline.ucRefs τ sig) (V5 m (outs m) c))
    (hch := fun c => ⟨.rfl, hpre0 m c, hpost0 m c, hpre1 m c, hpost1 m c, .rfl⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · refine BIBase.Entails.trans ?_ (BIBase.Entails.trans (bigSep_mono fun c _ => start m ρ c) fupd_intro)
    iintro ⟨H, -⟩; iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    iexact Hr

/-- A buffer the program's caller sees, after the run. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by simp [h]⟩

end Cert.KernelIdeal.Gen

end
-- ==== Proof.Frame.lean ====
/- The kernel's frame, from its run. -/
module

public import proofs.«01_k».proof.Proof.WholeRun
public import proofs.«01_k».proof.Defs

@[expose] public section

set_option maxRecDepth 16384

noncomputable section

namespace Cert.KernelIdeal.Gen

open Idealize.ShloMosaic Idealize.ShloMosaic.TcCoe
open Idealize.SL Idealize.SL.Sem

theorem frame : Cert.quiescent_KernelIdeal (hKernelIdeal := facts) := fun m g _ =>
  (run_all (F := Ideal) m g).mono fun r h => ⟨fun c =>
    ⟨(h.1 c main_arg0 (mem_uc main_arg0 rfl)).trans (V5_main_arg0 m (outs m) c),
      (h.1 c main_arg1 (mem_uc main_arg1 rfl)).trans (V5_main_arg1 m (outs m) c),
      (h.1 c main_arg2 (mem_uc main_arg2 rfl)).trans (V5_main_arg2 m (outs m) c),
      (h.1 c main_arg3 (mem_uc main_arg3 rfl)).trans (V5_main_arg3 m (outs m) c),
      (h.1 c main_arg4 (mem_uc main_arg4 rfl)).trans (V5_main_arg4 m (outs m) c),
      (h.1 c main_arg5 (mem_uc main_arg5 rfl)).trans (V5_main_arg5 m (outs m) c),
      (h.1 c main_arg6 (mem_uc main_arg6 rfl)).trans (V5_main_arg6 m (outs m) c),
      (h.1 c main_arg7 (mem_uc main_arg7 rfl)).trans (V5_main_arg7 m (outs m) c),
      (h.1 c main_arg8 (mem_uc main_arg8 rfl)).trans (V5_main_arg8 m (outs m) c),
      (h.1 c main_arg9 (mem_uc main_arg9 rfl)).trans (V5_main_arg9 m (outs m) c),
      (h.1 c main_arg10 (mem_uc main_arg10 rfl)).trans (V5_main_arg10 m (outs m) c),
      (h.1 c main_arg11 (mem_uc main_arg11 rfl)).trans (V5_main_arg11 m (outs m) c),
      (h.1 c main_arg12 (mem_uc main_arg12 rfl)).trans (V5_main_arg12 m (outs m) c),
      (h.1 c main_arg13 (mem_uc main_arg13 rfl)).trans (V5_main_arg13 m (outs m) c)⟩,
    h.2⟩

end Cert.KernelIdeal.Gen
-- ==== Proof.RefRun.lean ====
/- The reference as a run: its stretches of host operations, its loop of 50 trips, and the fold of the memory over them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- Operations of the program that write main_cst … main_v3_11. -/
abbrev mainOps0 : List (HloOp τ sig (Elt F)) :=
  [ StableHlo.nullary main_cst (constant S_ .f32 0x00000000#32),
    StableHlo.unary main_cst main_v0 (broadcastInDim S2048x64 ![] bcast_S_S2048x64 : (⟨S_, .f32⟩ : BufTy).Contents (Elt F) → (⟨S2048x64, .f32⟩ : BufTy).Contents (Elt F)),
    StableHlo.nullary main_cst_0 (constant S_ .f32 0x00000000#32),
    StableHlo.unary main_cst_0 main_v1 (broadcastInDim S2048x64x64 ![] bcast_S_S2048x64x64 : (⟨S_, .f32⟩ : BufTy).Contents (Elt F) → (⟨S2048x64x64, .f32⟩ : BufTy).Contents (Elt F)),
    StableHlo.unary main_arg0 main_v2 ((transpose S50x2048x128 [1, 0, 2] · transposes_S2048x50x128_S50x2048x128_1_0_2) : (⟨S2048x50x128, .f32⟩ : BufTy).Contents (Elt F) → (⟨S50x2048x128, .f32⟩ : BufTy).Contents (Elt F)),
    StableHlo.nullary main_c (constantI S_ 32 0#32),
    StableHlo.unary main_v2 main_v3_0 id,
    StableHlo.unary main_arg2 main_v3_1 id,
    StableHlo.unary main_arg3 main_v3_2 id,
    StableHlo.unary main_arg4 main_v3_3 id,
    StableHlo.unary main_arg5 main_v3_4 id,
    StableHlo.unary main_arg6 main_v3_5 id,
    StableHlo.unary main_arg7 main_v3_6 id,
    StableHlo.unary main_arg8 main_v3_7 id,
    StableHlo.unary main_arg9 main_v3_8 id,
    StableHlo.unary main_c main_v3_9 id,
    StableHlo.unary main_v0 main_v3_10 id,
    StableHlo.unary main_v1 main_v3_11 id ]
theorem mainOps0_sub : (mainOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps0_fresh : (mainOps0 : List (HloOp τ sig (Elt F))).Forall fun op => op.fresh = ∅ :=
  StableHlo.forall_fresh_of_map rfl
abbrev mainOps0_W : List (Ref sig .tc) := [main_cst, main_v0, main_cst_0, main_v1, main_v2, main_c, main_v3_0, main_v3_1, main_v3_2, main_v3_3, main_v3_4, main_v3_5, main_v3_6, main_v3_7, main_v3_8, main_v3_9, main_v3_10, main_v3_11]
theorem mainOps0_writes : (mainOps0 : List (HloOp τ sig (Elt F))).Forall fun op => op.writes ⊆ (mainOps0_W.map (Proc.devRef (τ := τ) .tc)).toFinset :=
  StableHlo.forall_writes_sub_of_map rfl

/-- Operations of the program that write main_v4 … main_v7. -/
abbrev mainOps1 : List (HloOp τ sig (Elt F)) :=
  [ StableHlo.binary main_v3_10 main_arg10 main_v4 ((fun l r => Host.dotGeneral dot_S2048x64_S64x256_S2048x256_1_0_0_1_n_n none l r) : (⟨S2048x64, .f32⟩ : BufTy).Contents (Elt F) → (⟨S64x256, .f32⟩ : BufTy).Contents (Elt F) → (⟨S2048x256, .f32⟩ : BufTy).Contents (Elt F)),
    StableHlo.unary main_arg11 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S2048x256 ![0, 1] bcast_S1x256_S2048x256_0_1 : (⟨S1x256, .f32⟩ : BufTy).Contents (Elt F) → (⟨S2048x256, .f32⟩ : BufTy).Contents (Elt F)),
    StableHlo.binary main_v4 main_v6 main_v7 (addf : (⟨S2048x256, .f32⟩ : BufTy).Contents (Elt F) → (⟨S2048x256, .f32⟩ : BufTy).Contents (Elt F) → (⟨S2048x256, .f32⟩ : BufTy).Contents (Elt F)) ]
theorem mainOps1_sub : (mainOps1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem mainOps1_fresh : (mainOps1 : List (HloOp τ sig (Elt F))).Forall fun op => op.fresh = ∅ :=
  StableHlo.forall_fresh_of_map rfl
abbrev mainOps1_W : List (Ref sig .tc) := [main_v4, main_v5, main_v6, main_v7]
theorem mainOps1_writes : (mainOps1 : List (HloOp τ sig (Elt F))).Forall fun op => op.writes ⊆ (mainOps1_W.map (Proc.devRef (τ := τ) .tc)).toFinset :=
  StableHlo.forall_writes_sub_of_map rfl

/-- Operations of the program that write main_call5_cst … main_v8. -/
abbrev mainOps2 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S2048x256, .f32⟩) (broadcastInDim S2048x256 ![] bcast_S_S2048x256),
    StableHlo.TRef.binary (.of main_v7 : StableHlo.TRef sig ⟨S2048x256, .f32⟩) (.of main_call5_v0 : StableHlo.TRef sig ⟨S2048x256, .f32⟩) (.of main_v8 : StableHlo.TRef sig ⟨S2048x256, .f32⟩) maximumf ]
theorem mainOps2_sub : (mainOps2 : List (HloOp τ sig (Elt F))).Forall fun op => op.bufs ⊆ StableHlo.tcRefs τ sig :=
  ⟨StableHlo.nullary_bufs_sub .., StableHlo.unary_bufs_sub .., StableHlo.binary_bufs_sub ..⟩
theorem mainOps2_fresh : (mainOps2 : List (HloOp τ sig (Elt F))).Forall fun op => op.fresh = ∅ :=
  StableHlo.forall_fresh_of_map rfl
abbrev mainOps2_W : List (Ref sig .tc) := [main_call5_cst, main_call5_v0, main_v8]
theorem mainOps2_writes : (mainOps2 : List (HloOp τ sig (Elt F))).Forall fun op => op.writes ⊆ (mainOps2_W.map (Proc.devRef (τ := τ) .tc)).toFinset :=
  StableHlo.forall_writes_sub_of_map rfl

/-- Operations of the program that write main_v9 … main_v13. -/
abbrev mainOps3 : List (HloOp τ sig (Elt F)) :=
  [ StableHlo.binary main_v8 main_arg12 main_v9 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    StableHlo.unary main_arg13 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S2048x64 ![0, 1] bcast_S1x64_S2048x64_0_1 : (⟨S1x64, .f32⟩ : BufTy).Contents (Elt F) → (⟨S2048x64, .f32⟩ : BufTy).Contents (Elt F)),
    StableHlo.binary main_v9 main_v11 main_v12 (addf : (⟨S2048x64, .f32⟩ : BufTy).Contents (Elt F) → (⟨S2048x64, .f32⟩ : BufTy).Contents (Elt F) → (⟨S2048x64, .f32⟩ : BufTy).Contents (Elt F)),
    StableHlo.unary main_arg1 main_v13 (Host.negf : (⟨S2048x64, .f32⟩ : BufTy).Contents (Elt F) → (⟨S2048x64, .f32⟩ : BufTy).Contents (Elt F)) ]
theorem mainOps3_sub : (mainOps3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub ..⟩
theorem mainOps3_fresh : (mainOps3 : List (HloOp τ sig (Elt F))).Forall fun op => op.fresh = ∅ :=
  StableHlo.forall_fresh_of_map rfl
abbrev mainOps3_W : List (Ref sig .tc) := [main_v9, main_v10, main_v11, main_v12, main_v13]
theorem mainOps3_writes : (mainOps3 : List (HloOp τ sig (Elt F))).Forall fun op => op.writes ⊆ (mainOps3_W.map (Proc.devRef (τ := τ) .tc)).toFinset :=
  StableHlo.forall_writes_sub_of_map rfl

/-- Operations of the program that write main_call6_cst … main_v14. -/
abbrev mainOps4 : List (HloOp τ sig (Elt F)) :=
  [ StableHlo.TRef.nullary (.of main_call6_cst : StableHlo.TRef sig ⟨S_, .f32⟩) (constant S_ .f32 0xFF800000#32),
    StableHlo.TRef.binary (.of main_v12 : StableHlo.TRef sig ⟨S2048x64, .f32⟩) (.of main_call6_cst : StableHlo.TRef sig ⟨S_, .f32⟩) (.of main_call6_v0 : StableHlo.TRef sig ⟨S2048, .f32⟩) (fun x v => Host.reduce FloatOps.maximumf x v reducesTo_S2048x64_S2048_d1 h_S_),
    StableHlo.TRef.nullary (.of main_call6_cst_0 : StableHlo.TRef sig ⟨S_, .f32⟩) (constant S_ .f32 0xFF800000#32),
    StableHlo.TRef.unary (.of main_call6_cst_0 : StableHlo.TRef sig ⟨S_, .f32⟩) (.of main_call6_v1 : StableHlo.TRef sig ⟨S2048, .f32⟩) (broadcastInDim S2048 ![] bcast_S_S2048),
    StableHlo.TRef.binary (.of main_call6_v1 : StableHlo.TRef sig ⟨S2048, .f32⟩) (.of main_call6_v0 : StableHlo.TRef sig ⟨S2048, .f32⟩) (.of main_call6_v2 : StableHlo.TRef sig ⟨S2048, .f32⟩) maximumf,
    StableHlo.TRef.unary (.of main_call6_v2 : StableHlo.TRef sig ⟨S2048, .f32⟩) (.of main_call6_v3 : StableHlo.TRef sig ⟨S2048x1, .f32⟩) (broadcastInDim S2048x1 ![0] bcast_S2048_S2048x1_0),
    StableHlo.TRef.unary (.of main_call6_v3 : StableHlo.TRef sig ⟨S2048x1, .f32⟩) (.of main_call6_v4 : StableHlo.TRef sig ⟨S2048x64, .f32⟩) (broadcastInDim S2048x64 ![0, 1] bcast_S2048x1_S2048x64_0_1),
    StableHlo.TRef.binary (.of main_v12 : StableHlo.TRef sig ⟨S2048x64, .f32⟩) (.of main_call6_v4 : StableHlo.TRef sig ⟨S2048x64, .f32⟩) (.of main_call6_v5 : StableHlo.TRef sig ⟨S2048x64, .f32⟩) subf,
    StableHlo.TRef.unary (.of main_call6_v5 : StableHlo.TRef sig ⟨S2048x64, .f32⟩) (.of main_call6_v6 : StableHlo.TRef sig ⟨S2048x64, .f32⟩) Host.exp,
    StableHlo.TRef.nullary (.of main_call6_cst_1 : StableHlo.TRef sig ⟨S_, .f32⟩) (constant S_ .f32 0x00000000#32),
    StableHlo.TRef.binary (.of main_call6_v6 : StableHlo.TRef sig ⟨S2048x64, .f32⟩) (.of main_call6_cst_1 : StableHlo.TRef sig ⟨S_, .f32⟩) (.of main_call6_v7 : StableHlo.TRef sig ⟨S2048, .f32⟩) (fun x v => Host.reduceAdd x v reducesTo_S2048x64_S2048_d1 h_S_),
    StableHlo.TRef.unary (.of main_call6_v7 : StableHlo.TRef sig ⟨S2048, .f32⟩) (.of main_call6_v8 : StableHlo.TRef sig ⟨S2048x1, .f32⟩) (broadcastInDim S2048x1 ![0] bcast_S2048_S2048x1_0),
    StableHlo.TRef.unary (.of main_call6_v8 : StableHlo.TRef sig ⟨S2048x1, .f32⟩) (.of main_call6_v9 : StableHlo.TRef sig ⟨S2048x1, .f32⟩) Host.log,
    StableHlo.TRef.unary (.of main_call6_v9 : StableHlo.TRef sig ⟨S2048x1, .f32⟩) (.of main_call6_v10 : StableHlo.TRef sig ⟨S2048x64, .f32⟩) (broadcastInDim S2048x64 ![0, 1] bcast_S2048x1_S2048x64_0_1),
    StableHlo.TRef.binary (.of main_call6_v5 : StableHlo.TRef sig ⟨S2048x64, .f32⟩) (.of main_call6_v10 : StableHlo.TRef sig ⟨S2048x64, .f32⟩) (.of main_v14 : StableHlo.TRef sig ⟨S2048x64, .f32⟩) subf ]
theorem mainOps4_sub : (mainOps4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem mainOps4_fresh : (mainOps4 : List (HloOp τ sig (Elt F))).Forall fun op => op.fresh = ∅ :=
  StableHlo.forall_fresh_of_map rfl
abbrev mainOps4_W : List (Ref sig .tc) := [main_call6_cst, main_call6_v0, main_call6_cst_0, main_call6_v1, main_call6_v2, main_call6_v3, main_call6_v4, main_call6_v5, main_call6_v6, main_call6_cst_1, main_call6_v7, main_call6_v8, main_call6_v9, main_call6_v10, main_v14]
theorem mainOps4_writes : (mainOps4 : List (HloOp τ sig (Elt F))).Forall fun op => op.writes ⊆ (mainOps4_W.map (Proc.devRef (τ := τ) .tc)).toFinset :=
  StableHlo.forall_writes_sub_of_map rfl

/-- Operations of the program that write main_v15 … main_v18. -/
abbrev mainOps5 : List (HloOp τ sig (Elt F)) :=
  [ StableHlo.binary main_v13 main_v14 main_v15 (mulf : (⟨S2048x64, .f32⟩ : BufTy).Contents (Elt F) → (⟨S2048x64, .f32⟩ : BufTy).Contents (Elt F) → (⟨S2048x64, .f32⟩ : BufTy).Contents (Elt F)),
    StableHlo.nullary main_cst_1 (constant S_ .f32 0x00000000#32),
    StableHlo.binary main_v15 main_cst_1 main_v16 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    StableHlo.nullary main_cst_2 (constant S_ .f32 0x00000000#32),
    StableHlo.binary main_v16 main_cst_2 main_v17 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_3 (constant S_ .f32 0x45000000#32),
    StableHlo.binary main_v17 main_cst_3 main_v18 (Host.divf : (⟨S_, .f32⟩ : BufTy).Contents (Elt F) → (⟨S_, .f32⟩ : BufTy).Contents (Elt F) → (⟨S_, .f32⟩ : BufTy).Contents (Elt F)) ]
theorem mainOps5_sub : (mainOps5 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩
theorem mainOps5_fresh : (mainOps5 : List (HloOp τ sig (Elt F))).Forall fun op => op.fresh = ∅ :=
  StableHlo.forall_fresh_of_map rfl
abbrev mainOps5_W : List (Ref sig .tc) := [main_v15, main_cst_1, main_v16, main_cst_2, main_v17, main_cst_3, main_v18]
theorem mainOps5_writes : (mainOps5 : List (HloOp τ sig (Elt F))).Forall fun op => op.writes ⊆ (mainOps5_W.map (Proc.devRef (τ := τ) .tc)).toFinset :=
  StableHlo.forall_writes_sub_of_map rfl

/-- Operations of the program that write main_call7_v0 … main_v19. -/
abbrev mainOps6 : List (HloOp τ sig (Elt F)) :=
  [ StableHlo.TRef.nullary (.of main_call7_v0 : StableHlo.TRef sig ⟨S2048x64, .i32⟩) (iotaInDim S2048x64 32 1),
    StableHlo.TRef.nullary (.of main_call7_cst : StableHlo.TRef sig ⟨S_, .f32⟩) (constant S_ .f32 0xFF800000#32),
    StableHlo.TRef.nullary (.of main_call7_c : StableHlo.TRef sig ⟨S_, .i32⟩) (constantI S_ 32 0#32),
    StableHlo.TRef.quaternary (.of main_v12 : StableHlo.TRef sig ⟨S2048x64, .f32⟩) (.of main_call7_v0 : StableHlo.TRef sig ⟨S2048x64, .i32⟩) (.of main_call7_cst : StableHlo.TRef sig ⟨S_, .f32⟩) (.of main_call7_c : StableHlo.TRef sig ⟨S_, .i32⟩) (.of main_call7_v1_0 : StableHlo.TRef sig ⟨S2048, .f32⟩) (fun x y u v j => (Host.argReduce reducer_argmax_f32_i32 x y u v reducesTo_S2048x64_S2048_d1 h_S_ j).1),
    StableHlo.TRef.quaternary (.of main_v12 : StableHlo.TRef sig ⟨S2048x64, .f32⟩) (.of main_call7_v0 : StableHlo.TRef sig ⟨S2048x64, .i32⟩) (.of main_call7_cst : StableHlo.TRef sig ⟨S_, .f32⟩) (.of main_call7_c : StableHlo.TRef sig ⟨S_, .i32⟩) (.of main_v19 : StableHlo.TRef sig ⟨S2048, .i32⟩) (fun x y u v j => (Host.argReduce reducer_argmax_f32_i32 x y u v reducesTo_S2048x64_S2048_d1 h_S_ j).2) ]
theorem mainOps6_sub : (mainOps6 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem mainOps6_fresh : (mainOps6 : List (HloOp τ sig (Elt F))).Forall fun op => op.fresh = ∅ :=
  StableHlo.forall_fresh_of_map rfl
abbrev mainOps6_W : List (Ref sig .tc) := [main_call7_v0, main_call7_cst, main_call7_c, main_call7_v1_0, main_v19]
theorem mainOps6_writes : (mainOps6 : List (HloOp τ sig (Elt F))).Forall fun op => op.writes ⊆ (mainOps6_W.map (Proc.devRef (τ := τ) .tc)).toFinset :=
  StableHlo.forall_writes_sub_of_map rfl

/-- Operations of the program that write main_call8_v0 … main_v20. -/
abbrev mainOps7 : List (HloOp τ sig (Elt F)) :=
  [ StableHlo.TRef.nullary (.of main_call8_v0 : StableHlo.TRef sig ⟨S2048x64, .i32⟩) (iotaInDim S2048x64 32 1),
    StableHlo.TRef.nullary (.of main_call8_cst : StableHlo.TRef sig ⟨S_, .f32⟩) (constant S_ .f32 0xFF800000#32),
    StableHlo.TRef.nullary (.of main_call8_c : StableHlo.TRef sig ⟨S_, .i32⟩) (constantI S_ 32 0#32),
    StableHlo.TRef.quaternary (.of main_arg1 : StableHlo.TRef sig ⟨S2048x64, .f32⟩) (.of main_call8_v0 : StableHlo.TRef sig ⟨S2048x64, .i32⟩) (.of main_call8_cst : StableHlo.TRef sig ⟨S_, .f32⟩) (.of main_call8_c : StableHlo.TRef sig ⟨S_, .i32⟩) (.of main_call8_v1_0 : StableHlo.TRef sig ⟨S2048, .f32⟩) (fun x y u v j => (Host.argReduce reducer_argmax_f32_i32 x y u v reducesTo_S2048x64_S2048_d1 h_S_ j).1),
    StableHlo.TRef.quaternary (.of main_arg1 : StableHlo.TRef sig ⟨S2048x64, .f32⟩) (.of main_call8_v0 : StableHlo.TRef sig ⟨S2048x64, .i32⟩) (.of main_call8_cst : StableHlo.TRef sig ⟨S_, .f32⟩) (.of main_call8_c : StableHlo.TRef sig ⟨S_, .i32⟩) (.of main_v20 : StableHlo.TRef sig ⟨S2048, .i32⟩) (fun x y u v j => (Host.argReduce reducer_argmax_f32_i32 x y u v reducesTo_S2048x64_S2048_d1 h_S_ j).2) ]
theorem mainOps7_sub : (mainOps7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem mainOps7_fresh : (mainOps7 : List (HloOp τ sig (Elt F))).Forall fun op => op.fresh = ∅ :=
  StableHlo.forall_fresh_of_map rfl
abbrev mainOps7_W : List (Ref sig .tc) := [main_call8_v0, main_call8_cst, main_call8_c, main_call8_v1_0, main_v20]
theorem mainOps7_writes : (mainOps7 : List (HloOp τ sig (Elt F))).Forall fun op => op.writes ⊆ (mainOps7_W.map (Proc.devRef (τ := τ) .tc)).toFinset :=
  StableHlo.forall_writes_sub_of_map rfl

/-- Operations of the program that write main_v21 … main_v24. -/
abbrev mainOps8 : List (HloOp τ sig (Elt F)) :=
  [ StableHlo.binary main_v19 main_v20 main_v21 (cmpi .eq : (⟨S2048, .i32⟩ : BufTy).Contents (Elt F) → (⟨S2048, .i32⟩ : BufTy).Contents (Elt F) → (⟨S2048, .i1⟩ : BufTy).Contents (Elt F)),
    StableHlo.unary main_v21 main_v22 (uitofp .f32 : (⟨S2048, .i1⟩ : BufTy).Contents (Elt F) → (⟨S2048, .f32⟩ : BufTy).Contents (Elt F)),
    StableHlo.nullary main_cst_4 (constant S_ .f32 0x00000000#32),
    StableHlo.binary main_v22 main_cst_4 main_v23 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_5 (constant S_ .f32 0x45000000#32),
    StableHlo.binary main_v23 main_cst_5 main_v24 (Host.divf : (⟨S_, .f32⟩ : BufTy).Contents (Elt F) → (⟨S_, .f32⟩ : BufTy).Contents (Elt F) → (⟨S_, .f32⟩ : BufTy).Contents (Elt F)) ]
theorem mainOps8_sub : (mainOps8 : List (HloOp τ sig (Elt F))).Forall fun op => op.bufs ⊆ StableHlo.tcRefs τ sig :=
  ⟨StableHlo.binary_bufs_sub .., StableHlo.unary_bufs_sub .., StableHlo.nullary_bufs_sub .., StableHlo.binary_bufs_sub .., StableHlo.nullary_bufs_sub .., StableHlo.binary_bufs_sub ..⟩
theorem mainOps8_fresh : (mainOps8 : List (HloOp τ sig (Elt F))).Forall fun op => op.fresh = ∅ :=
  StableHlo.forall_fresh_of_map rfl
abbrev mainOps8_W : List (Ref sig .tc) := [main_v21, main_v22, main_cst_4, main_v23, main_cst_5, main_v24]
theorem mainOps8_writes : (mainOps8 : List (HloOp τ sig (Elt F))).Forall fun op => op.writes ⊆ (mainOps8_W.map (Proc.devRef (τ := τ) .tc)).toFinset :=
  StableHlo.forall_writes_sub_of_map rfl

/-- Operations of the loop body that write main_while0b_call0_c … main_while0b_v25. -/
abbrev bodyOps0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v3_0 : StableHlo.TRef sig ⟨S50x2048x128, .f32⟩) ![(.of main_v3_9 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2048x128, .f32⟩) (fun x i => Host.dynamicSlice S1x2048x128 x (fun k => (i k (Shape.Idx.first h_S_)).toInt) sliceFits_S50x2048x128_S1x2048x128),
    StableHlo.TRef.reshape (.of main_while0b_call0_v0 : StableHlo.TRef sig ⟨S1x2048x128, .f32⟩) (.of main_while0b_v25 : StableHlo.TRef sig ⟨S2048x128, .f32⟩) (rfl : (.f32 : EltTy) = .f32) shapeCasts_S1x2048x128_S2048x128 ]
theorem bodyOps0_sub : (bodyOps0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bodyOps0_fresh : (bodyOps0 : List (HloOp τ sig (Elt F))).Forall fun op => op.fresh = ∅ :=
  StableHlo.forall_fresh_of_map rfl
abbrev bodyOps0_W : List (Ref sig .tc) := [main_while0b_call0_c, main_while0b_call0_c_0, main_while0b_call0_v0, main_while0b_v25]
theorem bodyOps0_writes : (bodyOps0 : List (HloOp τ sig (Elt F))).Forall fun op => op.writes ⊆ (bodyOps0_W.map (Proc.devRef (τ := τ) .tc)).toFinset :=
  StableHlo.forall_writes_sub_of_map rfl

/-- Operations of the loop body that write main_while0b_v26 … main_while0b_v29. -/
abbrev bodyOps1 : List (HloOp τ sig (Elt F)) :=
  [ StableHlo.binary main_while0b_v25 main_v3_1 main_while0b_v26 ((fun l r => Host.dotGeneral dot_S2048x128_S128x256_S2048x256_1_0_0_1_n_n none l r) : (⟨S2048x128, .f32⟩ : BufTy).Contents (Elt F) → (⟨S128x256, .f32⟩ : BufTy).Contents (Elt F) → (⟨S2048x256, .f32⟩ : BufTy).Contents (Elt F)),
    StableHlo.unary main_v3_2 main_while0b_v27 (broadcastInDim S1x256 ![1] bcast_S256_S1x256_1 : (⟨S256, .f32⟩ : BufTy).Contents (Elt F) → (⟨S1x256, .f32⟩ : BufTy).Contents (Elt F)),
    StableHlo.unary main_while0b_v27 main_while0b_v28 (broadcastInDim S2048x256 ![0, 1] bcast_S1x256_S2048x256_0_1 : (⟨S1x256, .f32⟩ : BufTy).Contents (Elt F) → (⟨S2048x256, .f32⟩ : BufTy).Contents (Elt F)),
    StableHlo.binary main_while0b_v26 main_while0b_v28 main_while0b_v29 (addf : (⟨S2048x256, .f32⟩ : BufTy).Contents (Elt F) → (⟨S2048x256, .f32⟩ : BufTy).Contents (Elt F) → (⟨S2048x256, .f32⟩ : BufTy).Contents (Elt F)) ]
theorem bodyOps1_sub : (bodyOps1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem bodyOps1_fresh : (bodyOps1 : List (HloOp τ sig (Elt F))).Forall fun op => op.fresh = ∅ :=
  StableHlo.forall_fresh_of_map rfl
abbrev bodyOps1_W : List (Ref sig .tc) := [main_while0b_v26, main_while0b_v27, main_while0b_v28, main_while0b_v29]
theorem bodyOps1_writes : (bodyOps1 : List (HloOp τ sig (Elt F))).Forall fun op => op.writes ⊆ (bodyOps1_W.map (Proc.devRef (τ := τ) .tc)).toFinset :=
  StableHlo.forall_writes_sub_of_map rfl

/-- Operations of the loop body that write main_while0b_call1_cst … main_while0b_v30. -/
abbrev bodyOps2 : List (HloOp τ sig (Elt F)) :=
  [ StableHlo.TRef.nullary (.of main_while0b_call1_cst : StableHlo.TRef sig ⟨S_, .f32⟩) (constant S_ .f32 0x00000000#32),
    StableHlo.TRef.unary (.of main_while0b_call1_cst : StableHlo.TRef sig ⟨S_, .f32⟩) (.of main_while0b_call1_v0 : StableHlo.TRef sig ⟨S2048x256, .f32⟩) (broadcastInDim S2048x256 ![] bcast_S_S2048x256),
    StableHlo.TRef.binary (.of main_while0b_v29 : StableHlo.TRef sig ⟨S2048x256, .f32⟩) (.of main_while0b_call1_v0 : StableHlo.TRef sig ⟨S2048x256, .f32⟩) (.of main_while0b_v30 : StableHlo.TRef sig ⟨S2048x256, .f32⟩) maximumf ]
theorem bodyOps2_sub : (bodyOps2 : List (HloOp τ sig (Elt F))).Forall fun op => op.bufs ⊆ StableHlo.tcRefs τ sig :=
  ⟨StableHlo.nullary_bufs_sub .., StableHlo.unary_bufs_sub .., StableHlo.binary_bufs_sub ..⟩
theorem bodyOps2_fresh : (bodyOps2 : List (HloOp τ sig (Elt F))).Forall fun op => op.fresh = ∅ :=
  StableHlo.forall_fresh_of_map rfl
abbrev bodyOps2_W : List (Ref sig .tc) := [main_while0b_call1_cst, main_while0b_call1_v0, main_while0b_v30]
theorem bodyOps2_writes : (bodyOps2 : List (HloOp τ sig (Elt F))).Forall fun op => op.writes ⊆ (bodyOps2_W.map (Proc.devRef (τ := τ) .tc)).toFinset :=
  StableHlo.forall_writes_sub_of_map rfl

/-- Operations of the loop body that write main_while0b_v31 … main_while0b_v34. -/
abbrev bodyOps3 : List (HloOp τ sig (Elt F)) :=
  [ StableHlo.binary main_while0b_v30 main_v3_3 main_while0b_v31 ((fun l r => Host.dotGeneral dot_S2048x256_S256x64_S2048x64_1_0_0_1_n_n none l r) : (⟨S2048x256, .f32⟩ : BufTy).Contents (Elt F) → (⟨S256x64, .f32⟩ : BufTy).Contents (Elt F) → (⟨S2048x64, .f32⟩ : BufTy).Contents (Elt F)),
    StableHlo.unary main_v3_4 main_while0b_v32 (broadcastInDim S1x64 ![1] bcast_S64_S1x64_1 : (⟨S64, .f32⟩ : BufTy).Contents (Elt F) → (⟨S1x64, .f32⟩ : BufTy).Contents (Elt F)),
    StableHlo.unary main_while0b_v32 main_while0b_v33 (broadcastInDim S2048x64 ![0, 1] bcast_S1x64_S2048x64_0_1 : (⟨S1x64, .f32⟩ : BufTy).Contents (Elt F) → (⟨S2048x64, .f32⟩ : BufTy).Contents (Elt F)),
    StableHlo.binary main_while0b_v31 main_while0b_v33 main_while0b_v34 (addf : (⟨S2048x64, .f32⟩ : BufTy).Contents (Elt F) → (⟨S2048x64, .f32⟩ : BufTy).Contents (Elt F) → (⟨S2048x64, .f32⟩ : BufTy).Contents (Elt F)) ]
theorem bodyOps3_sub : (bodyOps3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem bodyOps3_fresh : (bodyOps3 : List (HloOp τ sig (Elt F))).Forall fun op => op.fresh = ∅ :=
  StableHlo.forall_fresh_of_map rfl
abbrev bodyOps3_W : List (Ref sig .tc) := [main_while0b_v31, main_while0b_v32, main_while0b_v33, main_while0b_v34]
theorem bodyOps3_writes : (bodyOps3 : List (HloOp τ sig (Elt F))).Forall fun op => op.writes ⊆ (bodyOps3_W.map (Proc.devRef (τ := τ) .tc)).toFinset :=
  StableHlo.forall_writes_sub_of_map rfl

/-- Operations of the loop body that write main_while0b_call2_cst … main_while0b_v35. -/
abbrev bodyOps4 : List (HloOp τ sig (Elt F)) :=
  [ StableHlo.TRef.nullary (.of main_while0b_call2_cst : StableHlo.TRef sig ⟨S_, .f32⟩) (constant S_ .f32 0x00000000#32),
    StableHlo.TRef.unary (.of main_while0b_call2_cst : StableHlo.TRef sig ⟨S_, .f32⟩) (.of main_while0b_call2_v0 : StableHlo.TRef sig ⟨S2048x64, .f32⟩) (broadcastInDim S2048x64 ![] bcast_S_S2048x64),
    StableHlo.TRef.binary (.of main_while0b_v34 : StableHlo.TRef sig ⟨S2048x64, .f32⟩) (.of main_while0b_call2_v0 : StableHlo.TRef sig ⟨S2048x64, .f32⟩) (.of main_while0b_v35 : StableHlo.TRef sig ⟨S2048x64, .f32⟩) maximumf ]
theorem bodyOps4_sub : (bodyOps4 : List (HloOp τ sig (Elt F))).Forall fun op => op.bufs ⊆ StableHlo.tcRefs τ sig :=
  ⟨StableHlo.nullary_bufs_sub .., StableHlo.unary_bufs_sub .., StableHlo.binary_bufs_sub ..⟩
theorem bodyOps4_fresh : (bodyOps4 : List (HloOp τ sig (Elt F))).Forall fun op => op.fresh = ∅ :=
  StableHlo.forall_fresh_of_map rfl
abbrev bodyOps4_W : List (Ref sig .tc) := [main_while0b_call2_cst, main_while0b_call2_v0, main_while0b_v35]
theorem bodyOps4_writes : (bodyOps4 : List (HloOp τ sig (Elt F))).Forall fun op => op.writes ⊆ (bodyOps4_W.map (Proc.devRef (τ := τ) .tc)).toFinset :=
  StableHlo.forall_writes_sub_of_map rfl

/-- Operations of the loop body that write main_while0b_v36 … main_while0b_v38. -/
abbrev bodyOps5 : List (HloOp τ sig (Elt F)) :=
  [ StableHlo.binary main_v3_10 main_v3_5 main_while0b_v36 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.binary main_while0b_v35 main_v3_6 main_while0b_v37 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.binary main_while0b_v36 main_while0b_v37 main_while0b_v38 (addf : (⟨S2048x64, .f32⟩ : BufTy).Contents (Elt F) → (⟨S2048x64, .f32⟩ : BufTy).Contents (Elt F) → (⟨S2048x64, .f32⟩ : BufTy).Contents (Elt F)) ]
theorem bodyOps5_sub : (bodyOps5 : List (HloOp τ sig (Elt F))).Forall fun op => op.bufs ⊆ StableHlo.tcRefs τ sig :=
  ⟨StableHlo.binary_bufs_sub .., StableHlo.binary_bufs_sub .., StableHlo.binary_bufs_sub ..⟩
theorem bodyOps5_fresh : (bodyOps5 : List (HloOp τ sig (Elt F))).Forall fun op => op.fresh = ∅ :=
  StableHlo.forall_fresh_of_map rfl
abbrev bodyOps5_W : List (Ref sig .tc) := [main_while0b_v36, main_while0b_v37, main_while0b_v38]
theorem bodyOps5_writes : (bodyOps5 : List (HloOp τ sig (Elt F))).Forall fun op => op.writes ⊆ (bodyOps5_W.map (Proc.devRef (τ := τ) .tc)).toFinset :=
  StableHlo.forall_writes_sub_of_map rfl

/-- Operations of the loop body that write main_while0b_call3_cst … main_while0b_v39. -/
abbrev bodyOps6 : List (HloOp τ sig (Elt F)) :=
  [ StableHlo.TRef.nullary (.of main_while0b_call3_cst : StableHlo.TRef sig ⟨S_, .f32⟩) (constant S_ .f32 0x00000000#32),
    StableHlo.TRef.unary (.of main_while0b_call3_cst : StableHlo.TRef sig ⟨S_, .f32⟩) (.of main_while0b_call3_v0 : StableHlo.TRef sig ⟨S2048x64, .f32⟩) (broadcastInDim S2048x64 ![] bcast_S_S2048x64),
    StableHlo.TRef.binary (.of main_while0b_v38 : StableHlo.TRef sig ⟨S2048x64, .f32⟩) (.of main_while0b_call3_v0 : StableHlo.TRef sig ⟨S2048x64, .f32⟩) (.of main_while0b_v39 : StableHlo.TRef sig ⟨S2048x64, .f32⟩) maximumf ]
theorem bodyOps6_sub : (bodyOps6 : List (HloOp τ sig (Elt F))).Forall fun op => op.bufs ⊆ StableHlo.tcRefs τ sig :=
  ⟨StableHlo.nullary_bufs_sub .., StableHlo.unary_bufs_sub .., StableHlo.binary_bufs_sub ..⟩
theorem bodyOps6_fresh : (bodyOps6 : List (HloOp τ sig (Elt F))).Forall fun op => op.fresh = ∅ :=
  StableHlo.forall_fresh_of_map rfl
abbrev bodyOps6_W : List (Ref sig .tc) := [main_while0b_call3_cst, main_while0b_call3_v0, main_while0b_v39]
theorem bodyOps6_writes : (bodyOps6 : List (HloOp τ sig (Elt F))).Forall fun op => op.writes ⊆ (bodyOps6_W.map (Proc.devRef (τ := τ) .tc)).toFinset :=
  StableHlo.forall_writes_sub_of_map rfl

/-- Operations of the loop body that write main_while0b_cst_17 … main_while0b_v49. -/
abbrev bodyOps7 : List (HloOp τ sig (Elt F)) :=
  [ StableHlo.nullary main_while0b_cst_17 (constant S_ .f32 0x3F733333#32),
    StableHlo.unary main_while0b_cst_17 main_while0b_v40 (broadcastInDim S2048x64x64 ![] bcast_S_S2048x64x64 : (⟨S_, .f32⟩ : BufTy).Contents (Elt F) → (⟨S2048x64x64, .f32⟩ : BufTy).Contents (Elt F)),
    StableHlo.binary main_while0b_v40 main_v3_11 main_while0b_v41 (mulf : (⟨S2048x64x64, .f32⟩ : BufTy).Contents (Elt F) → (⟨S2048x64x64, .f32⟩ : BufTy).Contents (Elt F) → (⟨S2048x64x64, .f32⟩ : BufTy).Contents (Elt F)),
    StableHlo.unary main_while0b_v39 main_while0b_v42 (broadcastInDim S2048x64x1 ![0, 1] bcast_S2048x64_S2048x64x1_0_1 : (⟨S2048x64, .f32⟩ : BufTy).Contents (Elt F) → (⟨S2048x64x1, .f32⟩ : BufTy).Contents (Elt F)),
    StableHlo.unary main_while0b_v39 main_while0b_v43 (broadcastInDim S2048x1x64 ![0, 2] bcast_S2048x64_S2048x1x64_0_2 : (⟨S2048x64, .f32⟩ : BufTy).Contents (Elt F) → (⟨S2048x1x64, .f32⟩ : BufTy).Contents (Elt F)),
    StableHlo.unary main_while0b_v42 main_while0b_v44 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    StableHlo.unary main_while0b_v43 main_while0b_v45 (broadcastInDim S2048x64x64 ![0, 1, 2] bcast_S2048x1x64_S2048x64x64_0_1_2 : (⟨S2048x1x64, .f32⟩ : BufTy).Contents (Elt F) → (⟨S2048x64x64, .f32⟩ : BufTy).Contents (Elt F)),
    StableHlo.binary main_while0b_v44 main_while0b_v45 main_while0b_v46 (mulf : (⟨S2048x64x64, .f32⟩ : BufTy).Contents (Elt F) → (⟨S2048x64x64, .f32⟩ : BufTy).Contents (Elt F) → (⟨S2048x64x64, .f32⟩ : BufTy).Contents (Elt F)),
    StableHlo.nullary main_while0b_cst_18 (constant S_ .f32 0x3F000000#32),
    StableHlo.unary main_while0b_cst_18 main_while0b_v47 (broadcastInDim S2048x64x64 ![] bcast_S_S2048x64x64 : (⟨S_, .f32⟩ : BufTy).Contents (Elt F) → (⟨S2048x64x64, .f32⟩ : BufTy).Contents (Elt F)),
    StableHlo.binary main_while0b_v47 main_while0b_v46 main_while0b_v48 (mulf : (⟨S2048x64x64, .f32⟩ : BufTy).Contents (Elt F) → (⟨S2048x64x64, .f32⟩ : BufTy).Contents (Elt F) → (⟨S2048x64x64, .f32⟩ : BufTy).Contents (Elt F)),
    StableHlo.binary main_while0b_v41 main_while0b_v48 main_while0b_v49 (addf : (⟨S2048x64x64, .f32⟩ : BufTy).Contents (Elt F) → (⟨S2048x64x64, .f32⟩ : BufTy).Contents (Elt F) → (⟨S2048x64x64, .f32⟩ : BufTy).Contents (Elt F)) ]
theorem bodyOps7_sub : (bodyOps7 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
theorem bodyOps7_fresh : (bodyOps7 : List (HloOp τ sig (Elt F))).Forall fun op => op.fresh = ∅ :=
  StableHlo.forall_fresh_of_map rfl
abbrev bodyOps7_W : List (Ref sig .tc) := [main_while0b_cst_17, main_while0b_v40, main_while0b_v41, main_while0b_v42, main_while0b_v43, main_while0b_v44, main_while0b_v45, main_while0b_v46, main_while0b_cst_18, main_while0b_v47, main_while0b_v48, main_while0b_v49]
theorem bodyOps7_writes : (bodyOps7 : List (HloOp τ sig (Elt F))).Forall fun op => op.writes ⊆ (bodyOps7_W.map (Proc.devRef (τ := τ) .tc)).toFinset :=
  StableHlo.forall_writes_sub_of_map rfl

/-- Operations of the loop body that write main_while0b_v50 … main_while0b_v54. -/
abbrev bodyOps8 : List (HloOp τ sig (Elt F)) :=
  [ StableHlo.binary main_while0b_v39 main_v3_5 main_while0b_v50 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.binary main_while0b_v35 main_v3_6 main_while0b_v51 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.binary main_while0b_v50 main_while0b_v51 main_while0b_v52 (addf : (⟨S2048x64, .f32⟩ : BufTy).Contents (Elt F) → (⟨S2048x64, .f32⟩ : BufTy).Contents (Elt F) → (⟨S2048x64, .f32⟩ : BufTy).Contents (Elt F)),
    StableHlo.binary main_while0b_v39 main_while0b_v49 main_while0b_v53 ((fun l r => Host.dotGeneral dot_S2048x64_S2048x64x64_S2048x64_1_1_n_2_0_0 none l r) : (⟨S2048x64, .f32⟩ : BufTy).Contents (Elt F) → (⟨S2048x64x64, .f32⟩ : BufTy).Contents (Elt F) → (⟨S2048x64, .f32⟩ : BufTy).Contents (Elt F)),
    StableHlo.binary main_while0b_v52 main_while0b_v53 main_while0b_v54 (addf : (⟨S2048x64, .f32⟩ : BufTy).Contents (Elt F) → (⟨S2048x64, .f32⟩ : BufTy).Contents (Elt F) → (⟨S2048x64, .f32⟩ : BufTy).Contents (Elt F)) ]
theorem bodyOps8_sub : (bodyOps8 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub ..⟩
theorem bodyOps8_fresh : (bodyOps8 : List (HloOp τ sig (Elt F))).Forall fun op => op.fresh = ∅ :=
  StableHlo.forall_fresh_of_map rfl
abbrev bodyOps8_W : List (Ref sig .tc) := [main_while0b_v50, main_while0b_v51, main_while0b_v52, main_while0b_v53, main_while0b_v54]
theorem bodyOps8_writes : (bodyOps8 : List (HloOp τ sig (Elt F))).Forall fun op => op.writes ⊆ (bodyOps8_W.map (Proc.devRef (τ := τ) .tc)).toFinset :=
  StableHlo.forall_writes_sub_of_map rfl

/-- Operations of the loop body that write main_while0b_cst_19 … main_while0b_v57. -/
abbrev bodyOps9 : List (HloOp τ sig (Elt F)) :=
  [ StableHlo.nullary main_while0b_cst_19 (constant S_ .f32 0x00000000#32),
    StableHlo.binary main_while0b_v54 main_while0b_cst_19 main_while0b_v55 ((fun x v => Host.reduceAdd x v reducesTo_S2048x64_S64_d0 h_S_) : (⟨S2048x64, .f32⟩ : BufTy).Contents (Elt F) → (⟨S_, .f32⟩ : BufTy).Contents (Elt F) → (⟨S64, .f32⟩ : BufTy).Contents (Elt F)),
    StableHlo.nullary main_while0b_cst_20 (constant S_ .f32 0x45000000#32),
    StableHlo.unary main_while0b_cst_20 main_while0b_v56 (broadcastInDim S64 ![] bcast_S_S64 : (⟨S_, .f32⟩ : BufTy).Contents (Elt F) → (⟨S64, .f32⟩ : BufTy).Contents (Elt F)),
    StableHlo.binary main_while0b_v55 main_while0b_v56 main_while0b_v57 (Host.divf : (⟨S64, .f32⟩ : BufTy).Contents (Elt F) → (⟨S64, .f32⟩ : BufTy).Contents (Elt F) → (⟨S64, .f32⟩ : BufTy).Contents (Elt F)) ]
theorem bodyOps9_sub : (bodyOps9 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩
theorem bodyOps9_fresh : (bodyOps9 : List (HloOp τ sig (Elt F))).Forall fun op => op.fresh = ∅ :=
  StableHlo.forall_fresh_of_map rfl
abbrev bodyOps9_W : List (Ref sig .tc) := [main_while0b_cst_19, main_while0b_v55, main_while0b_cst_20, main_while0b_v56, main_while0b_v57]
theorem bodyOps9_writes : (bodyOps9 : List (HloOp τ sig (Elt F))).Forall fun op => op.writes ⊆ (bodyOps9_W.map (Proc.devRef (τ := τ) .tc)).toFinset :=
  StableHlo.forall_writes_sub_of_map rfl

/-- Operations of the loop body that write main_while0b_v58 … main_while0b_v77. -/
abbrev bodyOps10 : List (HloOp τ sig (Elt F)) :=
  [ StableHlo.unary main_while0b_v57 main_while0b_v58 (broadcastInDim S1x64 ![1] bcast_S64_S1x64_1 : (⟨S64, .f32⟩ : BufTy).Contents (Elt F) → (⟨S1x64, .f32⟩ : BufTy).Contents (Elt F)),
    StableHlo.unary main_while0b_v58 main_while0b_v59 (broadcastInDim S2048x64 ![0, 1] bcast_S1x64_S2048x64_0_1 : (⟨S1x64, .f32⟩ : BufTy).Contents (Elt F) → (⟨S2048x64, .f32⟩ : BufTy).Contents (Elt F)),
    StableHlo.binary main_while0b_v54 main_while0b_v59 main_while0b_v60 (subf : (⟨S2048x64, .f32⟩ : BufTy).Contents (Elt F) → (⟨S2048x64, .f32⟩ : BufTy).Contents (Elt F) → (⟨S2048x64, .f32⟩ : BufTy).Contents (Elt F)),
    StableHlo.binary main_while0b_v60 main_while0b_v60 main_while0b_v61 (mulf : (⟨S2048x64, .f32⟩ : BufTy).Contents (Elt F) → (⟨S2048x64, .f32⟩ : BufTy).Contents (Elt F) → (⟨S2048x64, .f32⟩ : BufTy).Contents (Elt F)),
    StableHlo.nullary main_while0b_cst_21 (constant S_ .f32 0x00000000#32),
    StableHlo.binary main_while0b_v61 main_while0b_cst_21 main_while0b_v62 ((fun x v => Host.reduceAdd x v reducesTo_S2048x64_S64_d0 h_S_) : (⟨S2048x64, .f32⟩ : BufTy).Contents (Elt F) → (⟨S_, .f32⟩ : BufTy).Contents (Elt F) → (⟨S64, .f32⟩ : BufTy).Contents (Elt F)),
    StableHlo.nullary main_while0b_cst_22 (constant S_ .f32 0x45000000#32),
    StableHlo.unary main_while0b_cst_22 main_while0b_v63 (broadcastInDim S64 ![] bcast_S_S64 : (⟨S_, .f32⟩ : BufTy).Contents (Elt F) → (⟨S64, .f32⟩ : BufTy).Contents (Elt F)),
    StableHlo.binary main_while0b_v62 main_while0b_v63 main_while0b_v64 (Host.divf : (⟨S64, .f32⟩ : BufTy).Contents (Elt F) → (⟨S64, .f32⟩ : BufTy).Contents (Elt F) → (⟨S64, .f32⟩ : BufTy).Contents (Elt F)),
    StableHlo.unary main_while0b_v64 main_while0b_v65 (Host.sqrt : (⟨S64, .f32⟩ : BufTy).Contents (Elt F) → (⟨S64, .f32⟩ : BufTy).Contents (Elt F)),
    StableHlo.unary main_while0b_v57 main_while0b_v66 (broadcastInDim S1x64 ![1] bcast_S64_S1x64_1 : (⟨S64, .f32⟩ : BufTy).Contents (Elt F) → (⟨S1x64, .f32⟩ : BufTy).Contents (Elt F)),
    StableHlo.unary main_while0b_v66 main_while0b_v67 (broadcastInDim S2048x64 ![0, 1] bcast_S1x64_S2048x64_0_1 : (⟨S1x64, .f32⟩ : BufTy).Contents (Elt F) → (⟨S2048x64, .f32⟩ : BufTy).Contents (Elt F)),
    StableHlo.binary main_while0b_v54 main_while0b_v67 main_while0b_v68 (subf : (⟨S2048x64, .f32⟩ : BufTy).Contents (Elt F) → (⟨S2048x64, .f32⟩ : BufTy).Contents (Elt F) → (⟨S2048x64, .f32⟩ : BufTy).Contents (Elt F)),
    StableHlo.unary main_v3_7 main_while0b_v69 (broadcastInDim S1x64 ![1] bcast_S64_S1x64_1 : (⟨S64, .f32⟩ : BufTy).Contents (Elt F) → (⟨S1x64, .f32⟩ : BufTy).Contents (Elt F)),
    StableHlo.unary main_while0b_v69 main_while0b_v70 (broadcastInDim S2048x64 ![0, 1] bcast_S1x64_S2048x64_0_1 : (⟨S1x64, .f32⟩ : BufTy).Contents (Elt F) → (⟨S2048x64, .f32⟩ : BufTy).Contents (Elt F)),
    StableHlo.binary main_while0b_v70 main_while0b_v68 main_while0b_v71 (mulf : (⟨S2048x64, .f32⟩ : BufTy).Contents (Elt F) → (⟨S2048x64, .f32⟩ : BufTy).Contents (Elt F) → (⟨S2048x64, .f32⟩ : BufTy).Contents (Elt F)),
    StableHlo.unary main_while0b_v65 main_while0b_v72 (broadcastInDim S1x64 ![1] bcast_S64_S1x64_1 : (⟨S64, .f32⟩ : BufTy).Contents (Elt F) → (⟨S1x64, .f32⟩ : BufTy).Contents (Elt F)),
    StableHlo.unary main_while0b_v72 main_while0b_v73 (broadcastInDim S2048x64 ![0, 1] bcast_S1x64_S2048x64_0_1 : (⟨S1x64, .f32⟩ : BufTy).Contents (Elt F) → (⟨S2048x64, .f32⟩ : BufTy).Contents (Elt F)),
    StableHlo.binary main_while0b_v71 main_while0b_v73 main_while0b_v74 (Host.divf : (⟨S2048x64, .f32⟩ : BufTy).Contents (Elt F) → (⟨S2048x64, .f32⟩ : BufTy).Contents (Elt F) → (⟨S2048x64, .f32⟩ : BufTy).Contents (Elt F)),
    StableHlo.unary main_v3_8 main_while0b_v75 (broadcastInDim S1x64 ![1] bcast_S64_S1x64_1 : (⟨S64, .f32⟩ : BufTy).Contents (Elt F) → (⟨S1x64, .f32⟩ : BufTy).Contents (Elt F)),
    StableHlo.unary main_while0b_v75 main_while0b_v76 (broadcastInDim S2048x64 ![0, 1] bcast_S1x64_S2048x64_0_1 : (⟨S1x64, .f32⟩ : BufTy).Contents (Elt F) → (⟨S2048x64, .f32⟩ : BufTy).Contents (Elt F)),
    StableHlo.binary main_while0b_v74 main_while0b_v76 main_while0b_v77 (addf : (⟨S2048x64, .f32⟩ : BufTy).Contents (Elt F) → (⟨S2048x64, .f32⟩ : BufTy).Contents (Elt F) → (⟨S2048x64, .f32⟩ : BufTy).Contents (Elt F)) ]
theorem bodyOps10_sub : (bodyOps10 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem bodyOps10_fresh : (bodyOps10 : List (HloOp τ sig (Elt F))).Forall fun op => op.fresh = ∅ :=
  StableHlo.forall_fresh_of_map rfl
abbrev bodyOps10_W : List (Ref sig .tc) := [main_while0b_v58, main_while0b_v59, main_while0b_v60, main_while0b_v61, main_while0b_cst_21, main_while0b_v62, main_while0b_cst_22, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77]
theorem bodyOps10_writes : (bodyOps10 : List (HloOp τ sig (Elt F))).Forall fun op => op.writes ⊆ (bodyOps10_W.map (Proc.devRef (τ := τ) .tc)).toFinset :=
  StableHlo.forall_writes_sub_of_map rfl

/-- Operations of the loop body that write main_while0b_call4_cst … main_while0b_v78. -/
abbrev bodyOps11 : List (HloOp τ sig (Elt F)) :=
  [ StableHlo.TRef.nullary (.of main_while0b_call4_cst : StableHlo.TRef sig ⟨S_, .f32⟩) (constant S_ .f32 0x00000000#32),
    StableHlo.TRef.unary (.of main_while0b_call4_cst : StableHlo.TRef sig ⟨S_, .f32⟩) (.of main_while0b_call4_v0 : StableHlo.TRef sig ⟨S2048x64, .f32⟩) (broadcastInDim S2048x64 ![] bcast_S_S2048x64),
    StableHlo.TRef.binary (.of main_while0b_v77 : StableHlo.TRef sig ⟨S2048x64, .f32⟩) (.of main_while0b_call4_v0 : StableHlo.TRef sig ⟨S2048x64, .f32⟩) (.of main_while0b_v78 : StableHlo.TRef sig ⟨S2048x64, .f32⟩) maximumf ]
theorem bodyOps11_sub : (bodyOps11 : List (HloOp τ sig (Elt F))).Forall fun op => op.bufs ⊆ StableHlo.tcRefs τ sig :=
  ⟨StableHlo.nullary_bufs_sub .., StableHlo.unary_bufs_sub .., StableHlo.binary_bufs_sub ..⟩
theorem bodyOps11_fresh : (bodyOps11 : List (HloOp τ sig (Elt F))).Forall fun op => op.fresh = ∅ :=
  StableHlo.forall_fresh_of_map rfl
abbrev bodyOps11_W : List (Ref sig .tc) := [main_while0b_call4_cst, main_while0b_call4_v0, main_while0b_v78]
theorem bodyOps11_writes : (bodyOps11 : List (HloOp τ sig (Elt F))).Forall fun op => op.writes ⊆ (bodyOps11_W.map (Proc.devRef (τ := τ) .tc)).toFinset :=
  StableHlo.forall_writes_sub_of_map rfl

/-- Operations of the loop body that write main_while0b_c_23 … main_v3_11. -/
abbrev bodyOps12 : List (HloOp τ sig (Elt F)) :=
  [ StableHlo.nullary main_while0b_c_23 (constantI S_ 32 1#32),
    StableHlo.binary main_v3_9 main_while0b_c_23 main_while0b_v79 (addi : (⟨S_, .i32⟩ : BufTy).Contents (Elt F) → (⟨S_, .i32⟩ : BufTy).Contents (Elt F) → (⟨S_, .i32⟩ : BufTy).Contents (Elt F)),
    StableHlo.unary main_while0b_v79 main_v3_9 id,
    StableHlo.unary main_while0b_v78 main_v3_10 id,
    StableHlo.unary main_while0b_v49 main_v3_11 id ]
theorem bodyOps12_sub : (bodyOps12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem bodyOps12_fresh : (bodyOps12 : List (HloOp τ sig (Elt F))).Forall fun op => op.fresh = ∅ :=
  StableHlo.forall_fresh_of_map rfl
abbrev bodyOps12_W : List (Ref sig .tc) := [main_while0b_c_23, main_while0b_v79, main_v3_9, main_v3_10, main_v3_11]
theorem bodyOps12_writes : (bodyOps12 : List (HloOp τ sig (Elt F))).Forall fun op => op.writes ⊆ (bodyOps12_W.map (Proc.devRef (τ := τ) .tc)).toFinset :=
  StableHlo.forall_writes_sub_of_map rfl

/-- The loop condition: the bound, and the trip counter compared with it. -/
abbrev condOps : List (HloOp τ sig (Elt F)) :=
  [ StableHlo.nullary main_while0c_c_17 (constantI S_ 32 50#32),
    StableHlo.binary main_v3_9 main_while0c_c_17 main_while0c_v25 (cmpi .slt : (⟨S_, .i32⟩ : BufTy).Contents (Elt F) → (⟨S_, .i32⟩ : BufTy).Contents (Elt F) → (⟨S_, .i1⟩ : BufTy).Contents (Elt F)) ]
abbrev condOps_W : List (Ref sig .tc) := [main_while0c_c_17, main_while0c_v25]
theorem condOps_writes : (condOps : List (HloOp τ sig (Elt F))).Forall fun op => op.writes ⊆ (condOps_W.map (Proc.devRef (τ := τ) .tc)).toFinset :=
  StableHlo.forall_writes_sub_of_map rfl

/-- The program as a chain of its stretches and its loop. -/
theorem main_chain (c : Dev nD) : main (F := F) c = (Pipeline.chain [StableHlo.seq mainOps0, HostLoop.enter 0, StableHlo.seq mainOps1, StableHlo.seq mainOps2, StableHlo.seq mainOps3, StableHlo.seq mainOps4, StableHlo.seq mainOps5, StableHlo.seq mainOps6, StableHlo.seq mainOps7, StableHlo.seq mainOps8] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

/-- The loop body as a chain of its stretches. -/
theorem body_chain : main_while0_body (F := F) = (Pipeline.chain [StableHlo.seq bodyOps0, StableHlo.seq bodyOps1, StableHlo.seq bodyOps2, StableHlo.seq bodyOps3, StableHlo.seq bodyOps4, StableHlo.seq bodyOps5, StableHlo.seq bodyOps6, StableHlo.seq bodyOps7, StableHlo.seq bodyOps8, StableHlo.seq bodyOps9, StableHlo.seq bodyOps10, StableHlo.seq bodyOps11, StableHlo.seq bodyOps12] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, StableHlo.chain_seq_cons, StableHlo.chain_seq_cons, StableHlo.chain_seq_cons, Pipeline.chain_cons, StableHlo.chain_seq_cons]
  chain_rfl

abbrev preI : List (List (HloOp τ sig (Elt F))) := [mainOps0]
theorem preI_plain : Plain (preI (F := F)) := .cons mainOps0_sub (hf := List.forall_iff_forall_mem.mp mainOps0_fresh) (.nil)

abbrev bodyI : List (List (HloOp τ sig (Elt F))) := [bodyOps0, bodyOps1, bodyOps2, bodyOps3, bodyOps4, bodyOps5, bodyOps6, bodyOps7, bodyOps8, bodyOps9, bodyOps10, bodyOps11, bodyOps12]
theorem bodyI_plain : Plain (bodyI (F := F)) := .cons bodyOps0_sub (hf := List.forall_iff_forall_mem.mp bodyOps0_fresh) (.cons bodyOps1_sub (hf := List.forall_iff_forall_mem.mp bodyOps1_fresh) (.cons bodyOps2_sub (hf := List.forall_iff_forall_mem.mp bodyOps2_fresh) (.cons bodyOps3_sub (hf := List.forall_iff_forall_mem.mp bodyOps3_fresh) (.cons bodyOps4_sub (hf := List.forall_iff_forall_mem.mp bodyOps4_fresh) (.cons bodyOps5_sub (hf := List.forall_iff_forall_mem.mp bodyOps5_fresh) (.cons bodyOps6_sub (hf := List.forall_iff_forall_mem.mp bodyOps6_fresh) (.cons bodyOps7_sub (hf := List.forall_iff_forall_mem.mp bodyOps7_fresh) (.cons bodyOps8_sub (hf := List.forall_iff_forall_mem.mp bodyOps8_fresh) (.cons bodyOps9_sub (hf := List.forall_iff_forall_mem.mp bodyOps9_fresh) (.cons bodyOps10_sub (hf := List.forall_iff_forall_mem.mp bodyOps10_fresh) (.cons bodyOps11_sub (hf := List.forall_iff_forall_mem.mp bodyOps11_fresh) (.cons bodyOps12_sub (hf := List.forall_iff_forall_mem.mp bodyOps12_fresh) (.nil)))))))))))))

abbrev postI : List (List (HloOp τ sig (Elt F))) := [mainOps1, mainOps2, mainOps3, mainOps4, mainOps5, mainOps6, mainOps7, mainOps8]
theorem postI_plain : Plain (postI (F := F)) := .cons mainOps1_sub (hf := List.forall_iff_forall_mem.mp mainOps1_fresh) (.cons mainOps2_sub (hf := List.forall_iff_forall_mem.mp mainOps2_fresh) (.cons mainOps3_sub (hf := List.forall_iff_forall_mem.mp mainOps3_fresh) (.cons mainOps4_sub (hf := List.forall_iff_forall_mem.mp mainOps4_fresh) (.cons mainOps5_sub (hf := List.forall_iff_forall_mem.mp mainOps5_fresh) (.cons mainOps6_sub (hf := List.forall_iff_forall_mem.mp mainOps6_fresh) (.cons mainOps7_sub (hf := List.forall_iff_forall_mem.mp mainOps7_fresh) (.cons mainOps8_sub (hf := List.forall_iff_forall_mem.mp mainOps8_fresh) (.nil))))))))

variable (m : (ℓ : Loc nD τ sig) → Buf (Elt F) ℓ) (ρ : Dev nD → PrngReg)

/-- The memory of device `c` before the `k`-th test of the loop. -/
abbrev atK (k : ℕ) (c : Dev nD) : Valuation τ sig (Elt F) := atTrip condOps bodyI (entryContents preI m) k c

/-- The loop's counter before its first test. -/
theorem ctr_entry (c : Dev nD) : entryContents preI m c (Proc.devRef .tc main_v3_9) = fun _ => (0#32 : BitVec 32) := by
  simp only [entryContents, afterL_cons, afterL_nil]
  after_reads_simp
  rfl

/-- One trip adds one to the counter. -/
theorem ctr_next (V : Valuation τ sig (Elt F)) : afterL bodyI (after condOps V) (Proc.devRef .tc main_v3_9)
    = addi (V (Proc.devRef .tc main_v3_9)) (constantI S_ 32 1#32) := by
  have hl : ∀ X : Valuation τ sig (Elt F), after bodyOps12 X (Proc.devRef .tc main_v3_9)
      = addi (X (Proc.devRef .tc main_v3_9)) (constantI S_ 32 1#32) := by
    intro X
    after_reads_simp
    rfl
  simp only [afterL_cons, afterL_nil]
  rw [hl, after_of_writes_sub _ _ bodyOps11_writes (by decide +kernel), after_of_writes_sub _ _ bodyOps10_writes (by decide +kernel), after_of_writes_sub _ _ bodyOps9_writes (by decide +kernel), after_of_writes_sub _ _ bodyOps8_writes (by decide +kernel), after_of_writes_sub _ _ bodyOps7_writes (by decide +kernel), after_of_writes_sub _ _ bodyOps6_writes (by decide +kernel), after_of_writes_sub _ _ bodyOps5_writes (by decide +kernel), after_of_writes_sub _ _ bodyOps4_writes (by decide +kernel), after_of_writes_sub _ _ bodyOps3_writes (by decide +kernel), after_of_writes_sub _ _ bodyOps2_writes (by decide +kernel), after_of_writes_sub _ _ bodyOps1_writes (by decide +kernel), after_of_writes_sub _ _ bodyOps0_writes (by decide +kernel),
    after_of_writes_sub _ _ condOps_writes (by decide +kernel)]

/-- Before the `k`-th test the counter holds `k`. -/
theorem atK_ctr (c : Dev nD) : ∀ k, atK m k c (Proc.devRef .tc main_v3_9) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, ctr_next, atK_ctr c k, Scf.iv_succ]
    rfl

set_option backward.isDefEq.respectTransparency.types false in
/-- The test answers whether fewer than 50 trips are done. -/
theorem cond_spec : CondSpec (pcfgs (F := F)) defs₀ loops (main_while0_cond (F := F)) condOps bodyI (entryContents preI m) 50 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_9 HostLoop.idx0)
        (HloOp.result _ (atK m k c) main_while0c_c_17 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  rw [after_cons, after_cons, after_nil]; iexact Hh

/-- Every fair execution of the reference ends with every buffer at the fold of its operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 50 m c (Proc.devRef .tc b)) :=
  run_loop (pcfgs (F := F)) defs₀ loops main 0 main_while0_cond main_while0_body rfl preI bodyI postI condOps preI_plain bodyI_plain postI_plain
    (fun c => by rw [main_chain]; rfl) (by rw [body_chain]; rfl) 50 m ρ (cond_spec m)

end Cert.ReferenceIdeal.Gen
-- ==== Proof.RefFrame.lean ====
/- What the reference leaves alone: a buffer no operation writes keeps its contents to the end; and the reference's frame. -/
module

public import proofs.«01_k».proof.Proof.RefRun
public import proofs.«01_k».proof.Defs
public import Idealize.ShloMosaic.Lib.Quiescent

@[expose] public section

set_option maxRecDepth 16384

noncomputable section

namespace Cert.ReferenceIdeal.Gen

open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ) (ρ : Dev nD → PrngReg)

/-- Every reference a trip of the loop writes, its test included. -/
abbrev trip_W : List (Ref sig .tc) := condOps_W ++ bodyOps0_W ++ bodyOps1_W ++ bodyOps2_W ++ bodyOps3_W ++ bodyOps4_W ++ bodyOps5_W ++ bodyOps6_W ++ bodyOps7_W ++ bodyOps8_W ++ bodyOps9_W ++ bodyOps10_W ++ bodyOps11_W ++ bodyOps12_W
/-- Every reference the stretch after the loop writes. -/
abbrev post_W : List (Ref sig .tc) := mainOps1_W ++ mainOps2_W ++ mainOps3_W ++ mainOps4_W ++ mainOps5_W ++ mainOps6_W ++ mainOps7_W ++ mainOps8_W

/-- A trip keeps what it does not write. -/
theorem trip_keep (V : Valuation τ sig (Elt F)) (r : Ref sig .tc) (h : r ∉ trip_W) :
    afterL bodyI (after condOps V) (Proc.devRef .tc r) = V (Proc.devRef .tc r) := by
  unfold trip_W at h
  simp only [afterL_cons, afterL_nil]
  rw [after_of_writes_sub _ _ bodyOps12_writes (by simp only [List.mem_append, not_or] at h; tauto),
    after_of_writes_sub _ _ bodyOps11_writes (by simp only [List.mem_append, not_or] at h; tauto),
    after_of_writes_sub _ _ bodyOps10_writes (by simp only [List.mem_append, not_or] at h; tauto),
    after_of_writes_sub _ _ bodyOps9_writes (by simp only [List.mem_append, not_or] at h; tauto),
    after_of_writes_sub _ _ bodyOps8_writes (by simp only [List.mem_append, not_or] at h; tauto),
    after_of_writes_sub _ _ bodyOps7_writes (by simp only [List.mem_append, not_or] at h; tauto),
    after_of_writes_sub _ _ bodyOps6_writes (by simp only [List.mem_append, not_or] at h; tauto),
    after_of_writes_sub _ _ bodyOps5_writes (by simp only [List.mem_append, not_or] at h; tauto),
    after_of_writes_sub _ _ bodyOps4_writes (by simp only [List.mem_append, not_or] at h; tauto),
    after_of_writes_sub _ _ bodyOps3_writes (by simp only [List.mem_append, not_or] at h; tauto),
    after_of_writes_sub _ _ bodyOps2_writes (by simp only [List.mem_append, not_or] at h; tauto),
    after_of_writes_sub _ _ bodyOps1_writes (by simp only [List.mem_append, not_or] at h; tauto),
    after_of_writes_sub _ _ bodyOps0_writes (by simp only [List.mem_append, not_or] at h; tauto),
    after_of_writes_sub _ _ condOps_writes (by simp only [List.mem_append, not_or] at h; tauto)]

/-- The stretch after the loop keeps what it does not write. -/
theorem post_keep (V : Valuation τ sig (Elt F)) (r : Ref sig .tc) (h : r ∉ post_W) :
    afterL postI V (Proc.devRef .tc r) = V (Proc.devRef .tc r) := by
  unfold post_W at h
  simp only [afterL_cons, afterL_nil]
  rw [after_of_writes_sub _ _ mainOps8_writes (by simp only [List.mem_append, not_or] at h; tauto),
    after_of_writes_sub _ _ mainOps7_writes (by simp only [List.mem_append, not_or] at h; tauto),
    after_of_writes_sub _ _ mainOps6_writes (by simp only [List.mem_append, not_or] at h; tauto),
    after_of_writes_sub _ _ mainOps5_writes (by simp only [List.mem_append, not_or] at h; tauto),
    after_of_writes_sub _ _ mainOps4_writes (by simp only [List.mem_append, not_or] at h; tauto),
    after_of_writes_sub _ _ mainOps3_writes (by simp only [List.mem_append, not_or] at h; tauto),
    after_of_writes_sub _ _ mainOps2_writes (by simp only [List.mem_append, not_or] at h; tauto),
    after_of_writes_sub _ _ mainOps1_writes (by simp only [List.mem_append, not_or] at h; tauto)]

/-- What no trip writes holds its contents at entry before every test. -/
theorem atK_keep (c : Dev nD) (r : Ref sig .tc) (h : r ∉ trip_W) :
    ∀ k, atK m k c (Proc.devRef .tc r) = entryContents preI m c (Proc.devRef .tc r)
  | 0 => rfl
  | k + 1 => by
    rw [show atK m (k + 1) c = afterL bodyI (after condOps (atK m k c)) from rfl, trip_keep _ r h, atK_keep c r h k]

/-- The memory at the end, opened: the last test, then the stretch after the loop. -/
theorem final_eq (c : Dev nD) : finalContents condOps preI bodyI postI 50 m c = afterL postI (after condOps (atK m 50 c)) := rfl

/-- What no operation writes ends as launched. -/
theorem final_keep (c : Dev nD) (r : Ref sig .tc) (h0 : r ∉ mainOps0_W) (h1 : r ∉ trip_W) (h2 : r ∉ post_W) :
    finalContents condOps preI bodyI postI 50 m c (Proc.devRef .tc r) = m ((c.tc : Thread nD τ).loc r) := by
  rw [final_eq, post_keep _ r h2,
    after_of_writes_sub condOps _ condOps_writes (by simp only [List.mem_append, not_or] at h1; tauto), atK_keep m c r h1]
  simp only [entryContents, afterL_cons, afterL_nil]
  rw [after_of_writes_sub _ _ mainOps0_writes h0]

/-- Nothing writes an argument. -/
theorem final_args (c : Dev nD) : ∀ r ∈ [main_arg0, main_arg1, main_arg2, main_arg3, main_arg4, main_arg5, main_arg6, main_arg7, main_arg8, main_arg9, main_arg10, main_arg11, main_arg12, main_arg13],
    finalContents condOps preI bodyI postI 50 m c (Proc.devRef .tc r) = m ((c.tc : Thread nD τ).loc r) := fun r hr =>
  final_keep m c r ((by decide +kernel : ∀ r ∈ [main_arg0, main_arg1, main_arg2, main_arg3, main_arg4, main_arg5, main_arg6, main_arg7, main_arg8, main_arg9, main_arg10, main_arg11, main_arg12, main_arg13], r ∉ mainOps0_W) r hr)
    ((by decide +kernel : ∀ r ∈ [main_arg0, main_arg1, main_arg2, main_arg3, main_arg4, main_arg5, main_arg6, main_arg7, main_arg8, main_arg9, main_arg10, main_arg11, main_arg12, main_arg13], r ∉ trip_W) r hr) ((by decide +kernel : ∀ r ∈ [main_arg0, main_arg1, main_arg2, main_arg3, main_arg4, main_arg5, main_arg6, main_arg7, main_arg8, main_arg9, main_arg10, main_arg11, main_arg12, main_arg13], r ∉ post_W) r hr)

theorem frame : Cert.quiescent_ReferenceIdeal (hReferenceIdeal := facts) := fun m g _ =>
  (run_fold (F := Ideal) m g).mono fun r h => ⟨fun c =>
    ⟨(h c main_arg0 rfl).trans (final_args m c _ (by decide)),
      (h c main_arg1 rfl).trans (final_args m c _ (by decide)),
      (h c main_arg2 rfl).trans (final_args m c _ (by decide)),
      (h c main_arg3 rfl).trans (final_args m c _ (by decide)),
      (h c main_arg4 rfl).trans (final_args m c _ (by decide)),
      (h c main_arg5 rfl).trans (final_args m c _ (by decide)),
      (h c main_arg6 rfl).trans (final_args m c _ (by decide)),
      (h c main_arg7 rfl).trans (final_args m c _ (by decide)),
      (h c main_arg8 rfl).trans (final_args m c _ (by decide)),
      (h c main_arg9 rfl).trans (final_args m c _ (by decide)),
      (h c main_arg10 rfl).trans (final_args m c _ (by decide)),
      (h c main_arg11 rfl).trans (final_args m c _ (by decide)),
      (h c main_arg12 rfl).trans (final_args m c _ (by decide)),
      (h c main_arg13 rfl).trans (final_args m c _ (by decide))⟩,
    sem_eq_zero_of_no_sems rfl _⟩

end Cert.ReferenceIdeal.Gen
-- ==== Proof.RefTrip.lean ====
/- One trip of the reference's loop and the stretch after it, each value as a function of the values it is computed from. -/
module

public import proofs.«01_k».proof.Proof.RefFrame

@[expose] public section

set_option maxRecDepth 16384

noncomputable section

namespace Cert.ReferenceIdeal.Gen

open Idealize.ShloMosaic Idealize.ShloMosaic.TcCoe Idealize.ShloMosaic.Tactic
open Idealize.SL Idealize.SL.Sem
open Idealize.ShloMosaic.StableHlo

variable {F : FTy → Type} [FloatOps F]

/-! ## The values of one trip -/

/-- The inputs of one step: the slice of the transposed inputs at the counter. -/
def xOf (X : Vec F S50x2048x128 .f32) (k : Vec F S_ .i32) : Vec F S2048x128 .f32 :=
  shapeCast S2048x128 (Host.dynamicSlice S1x2048x128 X
    (fun a => (((![k, constantI S_ 32 0#32, constantI S_ 32 0#32] : Fin 3 → (⟨S_, .i32⟩ : BufTy).Contents (Elt F))) a (Shape.Idx.first h_S_)).toInt)
    sliceFits_S50x2048x128_S1x2048x128) shapeCasts_S1x2048x128_S2048x128

/-- A row of 64, once per row of the batch. -/
def row64 (v : Vec F S64 .f32) : Vec F S2048x64 .f32 :=
  broadcastInDim S2048x64 ![0, 1] bcast_S1x64_S2048x64_0_1 (broadcastInDim S1x64 ![1] bcast_S64_S1x64_1 v)
/-- A row of 256, once per row of the batch. -/
def row256 (v : Vec F S256 .f32) : Vec F S2048x256 .f32 :=
  broadcastInDim S2048x256 ![0, 1] bcast_S1x256_S2048x256_0_1 (broadcastInDim S1x256 ![1] bcast_S256_S1x256_1 v)
/-- The positive part, at width 64. -/
def relu64 (v : Vec F S2048x64 .f32) : Vec F S2048x64 .f32 :=
  maximumf v (broadcastInDim S2048x64 ![] bcast_S_S2048x64 (constant S_ .f32 0x00000000#32))
/-- The positive part, at width 256. -/
def relu256 (v : Vec F S2048x256 .f32) : Vec F S2048x256 .f32 :=
  maximumf v (broadcastInDim S2048x256 ![] bcast_S_S2048x256 (constant S_ .f32 0x00000000#32))
/-- The product with a 64 × 64 matrix. -/
def mul64 (v : Vec F S2048x64 .f32) (w : Vec F S64x64 .f32) : Vec F S2048x64 .f32 :=
  Host.dotGeneral dot_S2048x64_S64x64_S2048x64_1_0_0_1_n_n none v w

/-- The features of one step's inputs. -/
def zRef (x : Vec F S2048x128 .f32) (w1 : Vec F S128x256 .f32) (b1 : Vec F S256 .f32) (w2 : Vec F S256x64 .f32) (b2 : Vec F S64 .f32) :
    Vec F S2048x64 .f32 :=
  relu64 (addf (Host.dotGeneral dot_S2048x256_S256x64_S2048x64_1_0_0_1_n_n none
    (relu256 (addf (Host.dotGeneral dot_S2048x128_S128x256_S2048x256_1_0_0_1_n_n none x w1) (row256 b1))) w2) (row64 b2))
/-- The state before the retrieval. -/
def hRef (h z : Vec F S2048x64 .f32) (w c : Vec F S64x64 .f32) : Vec F S2048x64 .f32 := relu64 (addf (mul64 h w) (mul64 z c))
/-- The fast weights: the old ones decayed, and the outer product added. -/
def aRef (a : Vec F S2048x64x64 .f32) (h : Vec F S2048x64 .f32) : Vec F S2048x64x64 .f32 :=
  addf (mulf (broadcastInDim S2048x64x64 ![] bcast_S_S2048x64x64 (constant S_ .f32 0x3F733333#32)) a)
    (mulf (broadcastInDim S2048x64x64 ![] bcast_S_S2048x64x64 (constant S_ .f32 0x3F000000#32))
      (mulf (broadcastInDim S2048x64x64 ![0, 1, 2] bcast_S2048x64x1_S2048x64x64_0_1_2 (broadcastInDim S2048x64x1 ![0, 1] bcast_S2048x64_S2048x64x1_0_1 h))
        (broadcastInDim S2048x64x64 ![0, 1, 2] bcast_S2048x1x64_S2048x64x64_0_1_2 (broadcastInDim S2048x1x64 ![0, 2] bcast_S2048x64_S2048x1x64_0_2 h))))
/-- The state after the retrieval. -/
def sRef (h z : Vec F S2048x64 .f32) (a : Vec F S2048x64x64 .f32) (w c : Vec F S64x64 .f32) : Vec F S2048x64 .f32 :=
  addf (addf (mul64 h w) (mul64 z c)) (Host.dotGeneral dot_S2048x64_S2048x64x64_S2048x64_1_1_n_2_0_0 none h a)
/-- The mean over the batch. -/
def meanRef (s : Vec F S2048x64 .f32) : Vec F S64 .f32 :=
  Host.divf (Host.reduceAdd s (constant S_ .f32 0x00000000#32) reducesTo_S2048x64_S64_d0 h_S_)
    (broadcastInDim S64 ![] bcast_S_S64 (constant S_ .f32 0x45000000#32))
/-- The normalised state. -/
def nRef (s : Vec F S2048x64 .f32) (mu g b : Vec F S64 .f32) : Vec F S2048x64 .f32 :=
  relu64 (addf (Host.divf (mulf (row64 g) (subf s (row64 mu)))
    (row64 (Host.sqrt (meanRef (mulf (subf s (row64 mu)) (subf s (row64 mu))))))) (row64 b))

/-- The logits of a state. -/
def gRef (h : Vec F S2048x64 .f32) (w3 : Vec F S64x256 .f32) (b3 : Vec F S256 .f32) (w4 : Vec F S256x64 .f32) (b4 : Vec F S64 .f32) :
    Vec F S2048x64 .f32 :=
  addf (Host.dotGeneral dot_S2048x256_S256x64_S2048x64_1_0_0_1_n_n none
    (relu256 (addf (Host.dotGeneral dot_S2048x64_S64x256_S2048x256_1_0_0_1_n_n none h w3) (row256 b3))) w4) (row64 b4)
/-- A column of 2048, once per column of the 64. -/
def col64 (v : Vec F S2048x1 .f32) : Vec F S2048x64 .f32 := broadcastInDim S2048x64 ![0, 1] bcast_S2048x1_S2048x64_0_1 v
/-- The logits less their largest. -/
def shiftRef (g : Vec F S2048x64 .f32) : Vec F S2048x64 .f32 :=
  subf g (col64 (broadcastInDim S2048x1 ![0] bcast_S2048_S2048x1_0
    (maximumf (broadcastInDim S2048 ![] bcast_S_S2048 (constant S_ .f32 0xFF800000#32))
      (Host.reduce FloatOps.maximumf g (constant S_ .f32 0xFF800000#32) reducesTo_S2048x64_S2048_d1 h_S_))))
/-- The logarithm of the softmax. -/
def lsRef (g : Vec F S2048x64 .f32) : Vec F S2048x64 .f32 :=
  subf (shiftRef g) (col64 (Host.log (broadcastInDim S2048x1 ![0] bcast_S2048_S2048x1_0
    (Host.reduceAdd (Host.exp (shiftRef g)) (constant S_ .f32 0x00000000#32) reducesTo_S2048x64_S2048_d1 h_S_))))
/-- The mean over the batch of the 2048 numbers `v`. -/
def avgRef (v : Vec F S2048 .f32) : Vec F S_ .f32 :=
  Host.divf (Host.reduceAdd v (constant S_ .f32 0x00000000#32) reducesTo_S2048_S_d0 h_S_) (constant S_ .f32 0x45000000#32)
/-- The loss. -/
def lossRef (by_ g : Vec F S2048x64 .f32) : Vec F S_ .f32 :=
  avgRef (Host.reduceAdd (mulf (Host.negf by_) (lsRef g)) (constant S_ .f32 0x00000000#32) reducesTo_S2048x64_S2048_d1 h_S_)
/-- The index of the largest entry of each row. -/
def argRef (g : Vec F S2048x64 .f32) : Vec F S2048 .i32 := fun j =>
  (Host.argReduce reducer_argmax_f32_i32 g (iotaInDim S2048x64 32 1) (constant S_ .f32 0xFF800000#32) (constantI S_ 32 0#32)
    reducesTo_S2048x64_S2048_d1 h_S_ j).2
/-- The accuracy. -/
def accRef (by_ g : Vec F S2048x64 .f32) : Vec F S_ .f32 := avgRef (uitofp .f32 (cmpi .eq (argRef g) (argRef by_)))

/-! ## The stretches of one trip -/

/-- The memory after `bodyOps0`. -/
def afterA0 (X : Valuation τ sig (Elt F)) : Valuation τ sig (Elt F) := after bodyOps0 X
abbrev afterA0_W : List (Ref sig .tc) := bodyOps0_W
theorem afterA0_keep (X : Valuation τ sig (Elt F)) (r : Ref sig .tc) (h : r ∉ afterA0_W) : afterA0 X (Proc.devRef .tc r) = X (Proc.devRef .tc r) := by
  unfold afterA0
  rw [after_of_writes_sub _ _ bodyOps0_writes (by tauto)]

/-- The memory after `bodyOps1` and `bodyOps2`. -/
def afterA1 (X : Valuation τ sig (Elt F)) : Valuation τ sig (Elt F) := after bodyOps2 (after bodyOps1 X)
abbrev afterA1_W : List (Ref sig .tc) := bodyOps1_W ++ bodyOps2_W
theorem afterA1_keep (X : Valuation τ sig (Elt F)) (r : Ref sig .tc) (h : r ∉ afterA1_W) : afterA1 X (Proc.devRef .tc r) = X (Proc.devRef .tc r) := by
  simp only [List.mem_append, not_or] at h
  unfold afterA1
  rw [after_of_writes_sub _ _ bodyOps2_writes (by tauto), after_of_writes_sub _ _ bodyOps1_writes (by tauto)]

/-- The memory after `bodyOps3` and `bodyOps4`. -/
def afterA2 (X : Valuation τ sig (Elt F)) : Valuation τ sig (Elt F) := after bodyOps4 (after bodyOps3 X)
abbrev afterA2_W : List (Ref sig .tc) := bodyOps3_W ++ bodyOps4_W
theorem afterA2_keep (X : Valuation τ sig (Elt F)) (r : Ref sig .tc) (h : r ∉ afterA2_W) : afterA2 X (Proc.devRef .tc r) = X (Proc.devRef .tc r) := by
  simp only [List.mem_append, not_or] at h
  unfold afterA2
  rw [after_of_writes_sub _ _ bodyOps4_writes (by tauto), after_of_writes_sub _ _ bodyOps3_writes (by tauto)]

/-- The memory after `bodyOps5` and `bodyOps6`. -/
def afterB (X : Valuation τ sig (Elt F)) : Valuation τ sig (Elt F) := after bodyOps6 (after bodyOps5 X)
abbrev afterB_W : List (Ref sig .tc) := bodyOps5_W ++ bodyOps6_W
theorem afterB_keep (X : Valuation τ sig (Elt F)) (r : Ref sig .tc) (h : r ∉ afterB_W) : afterB X (Proc.devRef .tc r) = X (Proc.devRef .tc r) := by
  simp only [List.mem_append, not_or] at h
  unfold afterB
  rw [after_of_writes_sub _ _ bodyOps6_writes (by tauto), after_of_writes_sub _ _ bodyOps5_writes (by tauto)]

/-- The memory after `bodyOps7`. -/
def afterC (X : Valuation τ sig (Elt F)) : Valuation τ sig (Elt F) := after bodyOps7 X
abbrev afterC_W : List (Ref sig .tc) := bodyOps7_W
theorem afterC_keep (X : Valuation τ sig (Elt F)) (r : Ref sig .tc) (h : r ∉ afterC_W) : afterC X (Proc.devRef .tc r) = X (Proc.devRef .tc r) := by
  unfold afterC
  rw [after_of_writes_sub _ _ bodyOps7_writes (by tauto)]

/-- The memory after `bodyOps8`. -/
def afterD (X : Valuation τ sig (Elt F)) : Valuation τ sig (Elt F) := after bodyOps8 X
abbrev afterD_W : List (Ref sig .tc) := bodyOps8_W
theorem afterD_keep (X : Valuation τ sig (Elt F)) (r : Ref sig .tc) (h : r ∉ afterD_W) : afterD X (Proc.devRef .tc r) = X (Proc.devRef .tc r) := by
  unfold afterD
  rw [after_of_writes_sub _ _ bodyOps8_writes (by tauto)]

/-- The memory after `bodyOps9`. -/
def afterE (X : Valuation τ sig (Elt F)) : Valuation τ sig (Elt F) := after bodyOps9 X
abbrev afterE_W : List (Ref sig .tc) := bodyOps9_W
theorem afterE_keep (X : Valuation τ sig (Elt F)) (r : Ref sig .tc) (h : r ∉ afterE_W) : afterE X (Proc.devRef .tc r) = X (Proc.devRef .tc r) := by
  unfold afterE
  rw [after_of_writes_sub _ _ bodyOps9_writes (by tauto)]

/-- The memory after `bodyOps10` and `bodyOps11`. -/
def afterG (X : Valuation τ sig (Elt F)) : Valuation τ sig (Elt F) := after bodyOps11 (after bodyOps10 X)
abbrev afterG_W : List (Ref sig .tc) := bodyOps10_W ++ bodyOps11_W
theorem afterG_keep (X : Valuation τ sig (Elt F)) (r : Ref sig .tc) (h : r ∉ afterG_W) : afterG X (Proc.devRef .tc r) = X (Proc.devRef .tc r) := by
  simp only [List.mem_append, not_or] at h
  unfold afterG
  rw [after_of_writes_sub _ _ bodyOps11_writes (by tauto), after_of_writes_sub _ _ bodyOps10_writes (by tauto)]

/-- The memory after `bodyOps12`. -/
def afterH (X : Valuation τ sig (Elt F)) : Valuation τ sig (Elt F) := after bodyOps12 X
abbrev afterH_W : List (Ref sig .tc) := bodyOps12_W
theorem afterH_keep (X : Valuation τ sig (Elt F)) (r : Ref sig .tc) (h : r ∉ afterH_W) : afterH X (Proc.devRef .tc r) = X (Proc.devRef .tc r) := by
  unfold afterH
  rw [after_of_writes_sub _ _ bodyOps12_writes (by tauto)]

/-- The memory after `mainOps1` and `mainOps2` and `mainOps3`. -/
def afterP (X : Valuation τ sig (Elt F)) : Valuation τ sig (Elt F) := after mainOps3 (after mainOps2 (after mainOps1 X))
abbrev afterP_W : List (Ref sig .tc) := mainOps1_W ++ mainOps2_W ++ mainOps3_W
theorem afterP_keep (X : Valuation τ sig (Elt F)) (r : Ref sig .tc) (h : r ∉ afterP_W) : afterP X (Proc.devRef .tc r) = X (Proc.devRef .tc r) := by
  simp only [List.mem_append, not_or] at h
  unfold afterP
  rw [after_of_writes_sub _ _ mainOps3_writes (by tauto), after_of_writes_sub _ _ mainOps2_writes (by tauto), after_of_writes_sub _ _ mainOps1_writes (by tauto)]

/-- The memory after `mainOps4`. -/
def afterQ0 (X : Valuation τ sig (Elt F)) : Valuation τ sig (Elt F) := after mainOps4 X
abbrev afterQ0_W : List (Ref sig .tc) := mainOps4_W
theorem afterQ0_keep (X : Valuation τ sig (Elt F)) (r : Ref sig .tc) (h : r ∉ afterQ0_W) : afterQ0 X (Proc.devRef .tc r) = X (Proc.devRef .tc r) := by
  unfold afterQ0
  rw [after_of_writes_sub _ _ mainOps4_writes (by tauto)]

/-- The memory after `mainOps5`. -/
def afterQ1 (X : Valuation τ sig (Elt F)) : Valuation τ sig (Elt F) := after mainOps5 X
abbrev afterQ1_W : List (Ref sig .tc) := mainOps5_W
theorem afterQ1_keep (X : Valuation τ sig (Elt F)) (r : Ref sig .tc) (h : r ∉ afterQ1_W) : afterQ1 X (Proc.devRef .tc r) = X (Proc.devRef .tc r) := by
  unfold afterQ1
  rw [after_of_writes_sub _ _ mainOps5_writes (by tauto)]

/-- The memory after `mainOps6`. -/
def afterR (X : Valuation τ sig (Elt F)) : Valuation τ sig (Elt F) := after mainOps6 X
abbrev afterR_W : List (Ref sig .tc) := mainOps6_W
theorem afterR_keep (X : Valuation τ sig (Elt F)) (r : Ref sig .tc) (h : r ∉ afterR_W) : afterR X (Proc.devRef .tc r) = X (Proc.devRef .tc r) := by
  unfold afterR
  rw [after_of_writes_sub _ _ mainOps6_writes (by tauto)]

/-- The memory after `mainOps7`. -/
def afterS (X : Valuation τ sig (Elt F)) : Valuation τ sig (Elt F) := after mainOps7 X
abbrev afterS_W : List (Ref sig .tc) := mainOps7_W
theorem afterS_keep (X : Valuation τ sig (Elt F)) (r : Ref sig .tc) (h : r ∉ afterS_W) : afterS X (Proc.devRef .tc r) = X (Proc.devRef .tc r) := by
  unfold afterS
  rw [after_of_writes_sub _ _ mainOps7_writes (by tauto)]

/-- The memory after `mainOps8`. -/
def afterT (X : Valuation τ sig (Elt F)) : Valuation τ sig (Elt F) := after mainOps8 X
abbrev afterT_W : List (Ref sig .tc) := mainOps8_W
theorem afterT_keep (X : Valuation τ sig (Elt F)) (r : Ref sig .tc) (h : r ∉ afterT_W) : afterT X (Proc.devRef .tc r) = X (Proc.devRef .tc r) := by
  unfold afterT
  rw [after_of_writes_sub _ _ mainOps8_writes (by tauto)]

set_option maxRecDepth 100000 in
theorem afterA0_v25 (X : Valuation τ sig (Elt F)) : afterA0 X (Proc.devRef .tc main_while0b_v25) = xOf (X (Proc.devRef .tc main_v3_0)) (X (Proc.devRef .tc main_v3_9)) := by
  unfold afterA0
  after_reads_simp
  refine Eq.trans (b := shapeCast S2048x128 (Host.dynamicSlice S1x2048x128 (X (Proc.devRef .tc main_v3_0)) _
    sliceFits_S50x2048x128_S1x2048x128) shapeCasts_S1x2048x128_S2048x128) rfl ?_
  unfold xOf
  refine congrArg (fun f => shapeCast S2048x128 (Host.dynamicSlice S1x2048x128 (X (Proc.devRef .tc main_v3_0)) f
    sliceFits_S50x2048x128_S1x2048x128) shapeCasts_S1x2048x128_S2048x128) (funext fun k => ?_)
  fin_cases k <;> after_reads_simp <;> rfl

set_option maxRecDepth 100000 in
theorem afterA1_v30 (X : Valuation τ sig (Elt F)) : afterA1 X (Proc.devRef .tc main_while0b_v30) = relu256 (addf (Host.dotGeneral dot_S2048x128_S128x256_S2048x256_1_0_0_1_n_n none (X (Proc.devRef .tc main_while0b_v25)) (X (Proc.devRef .tc main_v3_1))) (row256 (X (Proc.devRef .tc main_v3_2)))) := by
  unfold afterA1
  after_reads_simp
  rfl

set_option maxRecDepth 100000 in
theorem afterA2_v35 (X : Valuation τ sig (Elt F)) : afterA2 X (Proc.devRef .tc main_while0b_v35) = relu64 (addf (Host.dotGeneral dot_S2048x256_S256x64_S2048x64_1_0_0_1_n_n none (X (Proc.devRef .tc main_while0b_v30)) (X (Proc.devRef .tc main_v3_3))) (row64 (X (Proc.devRef .tc main_v3_4)))) := by
  unfold afterA2
  after_reads_simp
  rfl

set_option maxRecDepth 100000 in
theorem afterB_v39 (X : Valuation τ sig (Elt F)) : afterB X (Proc.devRef .tc main_while0b_v39) = hRef (X (Proc.devRef .tc main_v3_10)) (X (Proc.devRef .tc main_while0b_v35)) (X (Proc.devRef .tc main_v3_5)) (X (Proc.devRef .tc main_v3_6)) := by
  unfold afterB
  after_reads_simp
  rfl

set_option maxRecDepth 100000 in
theorem afterC_v49 (X : Valuation τ sig (Elt F)) : afterC X (Proc.devRef .tc main_while0b_v49) = aRef (X (Proc.devRef .tc main_v3_11)) (X (Proc.devRef .tc main_while0b_v39)) := by
  unfold afterC
  after_reads_simp
  rfl

set_option maxRecDepth 100000 in
theorem afterD_v54 (X : Valuation τ sig (Elt F)) : afterD X (Proc.devRef .tc main_while0b_v54) = sRef (X (Proc.devRef .tc main_while0b_v39)) (X (Proc.devRef .tc main_while0b_v35)) (X (Proc.devRef .tc main_while0b_v49)) (X (Proc.devRef .tc main_v3_5)) (X (Proc.devRef .tc main_v3_6)) := by
  unfold afterD
  after_reads_simp
  rfl

set_option maxRecDepth 100000 in
theorem afterE_v57 (X : Valuation τ sig (Elt F)) : afterE X (Proc.devRef .tc main_while0b_v57) = meanRef (X (Proc.devRef .tc main_while0b_v54)) := by
  unfold afterE
  after_reads_simp
  rfl

set_option maxRecDepth 100000 in
theorem afterG_v78 (X : Valuation τ sig (Elt F)) : afterG X (Proc.devRef .tc main_while0b_v78) = nRef (X (Proc.devRef .tc main_while0b_v54)) (X (Proc.devRef .tc main_while0b_v57)) (X (Proc.devRef .tc main_v3_7)) (X (Proc.devRef .tc main_v3_8)) := by
  unfold afterG
  after_reads_simp
  rfl

set_option maxRecDepth 100000 in
theorem afterH_v3_10 (X : Valuation τ sig (Elt F)) : afterH X (Proc.devRef .tc main_v3_10) = X (Proc.devRef .tc main_while0b_v78) := by
  unfold afterH
  after_reads_simp
  rfl

set_option maxRecDepth 100000 in
theorem afterH_v3_11 (X : Valuation τ sig (Elt F)) : afterH X (Proc.devRef .tc main_v3_11) = X (Proc.devRef .tc main_while0b_v49) := by
  unfold afterH
  after_reads_simp
  rfl

set_option maxRecDepth 100000 in
theorem afterP_v12 (X : Valuation τ sig (Elt F)) : afterP X (Proc.devRef .tc main_v12) = gRef (X (Proc.devRef .tc main_v3_10)) (X (Proc.devRef .tc main_arg10)) (X (Proc.devRef .tc main_arg11)) (X (Proc.devRef .tc main_arg12)) (X (Proc.devRef .tc main_arg13)) := by
  unfold afterP
  after_reads_simp
  rfl

set_option maxRecDepth 100000 in
theorem afterP_v13 (X : Valuation τ sig (Elt F)) : afterP X (Proc.devRef .tc main_v13) = Host.negf (X (Proc.devRef .tc main_arg1)) := by
  unfold afterP
  after_reads_simp

set_option maxRecDepth 100000 in
theorem afterQ0_v14 (X : Valuation τ sig (Elt F)) : afterQ0 X (Proc.devRef .tc main_v14) = lsRef (X (Proc.devRef .tc main_v12)) := by
  unfold afterQ0
  after_reads_simp
  simp only [TRef.ofBuf_toBuf]
  rfl

set_option maxRecDepth 100000 in
theorem afterQ1_v18 (X : Valuation τ sig (Elt F)) : afterQ1 X (Proc.devRef .tc main_v18) = avgRef (Host.reduceAdd (mulf (X (Proc.devRef .tc main_v13)) (X (Proc.devRef .tc main_v14))) (constant S_ .f32 0x00000000#32) reducesTo_S2048x64_S2048_d1 h_S_) := by
  unfold afterQ1
  after_reads_simp
  rfl

set_option maxRecDepth 100000 in
theorem afterR_v19 (X : Valuation τ sig (Elt F)) : afterR X (Proc.devRef .tc main_v19) = argRef (X (Proc.devRef .tc main_v12)) := by
  unfold afterR
  after_reads_simp
  rfl

set_option maxRecDepth 100000 in
theorem afterS_v20 (X : Valuation τ sig (Elt F)) : afterS X (Proc.devRef .tc main_v20) = argRef (X (Proc.devRef .tc main_arg1)) := by
  unfold afterS
  after_reads_simp
  rfl

set_option maxRecDepth 100000 in
theorem afterT_v24 (X : Valuation τ sig (Elt F)) : afterT X (Proc.devRef .tc main_v24) = avgRef (uitofp .f32 (cmpi .eq (X (Proc.devRef .tc main_v19)) (X (Proc.devRef .tc main_v20)))) := by
  unfold afterT
  after_reads_simp
  rfl

end Cert.ReferenceIdeal.Gen
-- ==== Proof.RefState.lean ====
/- The reference's loop as a recursion on two arrays, the state and the fast weights, and its two results from the last state. -/
module

public import proofs.«01_k».proof.Proof.RefTrip

@[expose] public section

set_option maxRecDepth 16384

noncomputable section

namespace Cert.ReferenceIdeal.Gen

open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ)

/-- One step of the recursion, from the features `z` of its inputs. -/
def stepRef (z : Vec F S2048x64 .f32) (w c : Vec F S64x64 .f32) (g b : Vec F S64 .f32) (p : Vec F S2048x64 .f32 × Vec F S2048x64x64 .f32) :
    Vec F S2048x64 .f32 × Vec F S2048x64x64 .f32 :=
  (nRef (sRef (hRef p.1 z w c) z (aRef p.2 (hRef p.1 z w c)) w c)
      (meanRef (sRef (hRef p.1 z w c) z (aRef p.2 (hRef p.1 z w c)) w c)) g b,
    aRef p.2 (hRef p.1 z w c))

/-- The features the trip from the memory `V` computes. -/
def zTrip (V : Valuation τ sig (Elt F)) : Vec F S2048x64 .f32 :=
  zRef (xOf (V (Proc.devRef .tc main_v3_0)) (V (Proc.devRef .tc main_v3_9))) (V (Proc.devRef .tc main_v3_1)) (V (Proc.devRef .tc main_v3_2))
    (V (Proc.devRef .tc main_v3_3)) (V (Proc.devRef .tc main_v3_4))

theorem trip_v3_10 (V : Valuation τ sig (Elt F)) : afterL bodyI (after condOps V) (Proc.devRef .tc main_v3_10) = (stepRef (zTrip V) (V (Proc.devRef .tc main_v3_5)) (V (Proc.devRef .tc main_v3_6)) (V (Proc.devRef .tc main_v3_7)) (V (Proc.devRef .tc main_v3_8)) ((V (Proc.devRef .tc main_v3_10)), (V (Proc.devRef .tc main_v3_11)))).1 := by
  rw [show afterL bodyI (after condOps V) = afterH (afterG (afterE (afterD (afterC (afterB (afterA2 (afterA1 (afterA0 (after condOps V))))))))) from rfl]
  rw [afterH_v3_10,
    afterG_v78,
    afterE_v57,
    afterE_keep _ main_while0b_v54 (by decide +kernel),
    afterE_keep _ main_v3_7 (by decide +kernel),
    afterE_keep _ main_v3_8 (by decide +kernel),
    afterD_v54,
    afterD_keep _ main_v3_7 (by decide +kernel),
    afterD_keep _ main_v3_8 (by decide +kernel),
    afterC_v49,
    afterC_keep _ main_while0b_v39 (by decide +kernel),
    afterC_keep _ main_while0b_v35 (by decide +kernel),
    afterC_keep _ main_v3_5 (by decide +kernel),
    afterC_keep _ main_v3_6 (by decide +kernel),
    afterC_keep _ main_v3_7 (by decide +kernel),
    afterC_keep _ main_v3_8 (by decide +kernel),
    afterB_v39,
    afterB_keep _ main_v3_11 (by decide +kernel),
    afterB_keep _ main_while0b_v35 (by decide +kernel),
    afterB_keep _ main_v3_5 (by decide +kernel),
    afterB_keep _ main_v3_6 (by decide +kernel),
    afterB_keep _ main_v3_7 (by decide +kernel),
    afterB_keep _ main_v3_8 (by decide +kernel),
    afterA2_v35,
    afterA2_keep _ main_v3_10 (by decide +kernel),
    afterA2_keep _ main_v3_5 (by decide +kernel),
    afterA2_keep _ main_v3_6 (by decide +kernel),
    afterA2_keep _ main_v3_11 (by decide +kernel),
    afterA2_keep _ main_v3_7 (by decide +kernel),
    afterA2_keep _ main_v3_8 (by decide +kernel),
    afterA1_v30,
    afterA1_keep _ main_v3_3 (by decide +kernel),
    afterA1_keep _ main_v3_4 (by decide +kernel),
    afterA1_keep _ main_v3_10 (by decide +kernel),
    afterA1_keep _ main_v3_5 (by decide +kernel),
    afterA1_keep _ main_v3_6 (by decide +kernel),
    afterA1_keep _ main_v3_11 (by decide +kernel),
    afterA1_keep _ main_v3_7 (by decide +kernel),
    afterA1_keep _ main_v3_8 (by decide +kernel),
    afterA0_v25,
    afterA0_keep _ main_v3_1 (by decide +kernel),
    afterA0_keep _ main_v3_2 (by decide +kernel),
    afterA0_keep _ main_v3_3 (by decide +kernel),
    afterA0_keep _ main_v3_4 (by decide +kernel),
    afterA0_keep _ main_v3_10 (by decide +kernel),
    afterA0_keep _ main_v3_5 (by decide +kernel),
    afterA0_keep _ main_v3_6 (by decide +kernel),
    afterA0_keep _ main_v3_11 (by decide +kernel),
    afterA0_keep _ main_v3_7 (by decide +kernel),
    afterA0_keep _ main_v3_8 (by decide +kernel),
    after_of_writes_sub condOps _ condOps_writes (r := main_v3_0) (by decide +kernel),
    after_of_writes_sub condOps _ condOps_writes (r := main_v3_9) (by decide +kernel),
    after_of_writes_sub condOps _ condOps_writes (r := main_v3_1) (by decide +kernel),
    after_of_writes_sub condOps _ condOps_writes (r := main_v3_2) (by decide +kernel),
    after_of_writes_sub condOps _ condOps_writes (r := main_v3_3) (by decide +kernel),
    after_of_writes_sub condOps _ condOps_writes (r := main_v3_4) (by decide +kernel),
    after_of_writes_sub condOps _ condOps_writes (r := main_v3_10) (by decide +kernel),
    after_of_writes_sub condOps _ condOps_writes (r := main_v3_5) (by decide +kernel),
    after_of_writes_sub condOps _ condOps_writes (r := main_v3_6) (by decide +kernel),
    after_of_writes_sub condOps _ condOps_writes (r := main_v3_11) (by decide +kernel),
    after_of_writes_sub condOps _ condOps_writes (r := main_v3_7) (by decide +kernel),
    after_of_writes_sub condOps _ condOps_writes (r := main_v3_8) (by decide +kernel)]
  rfl

theorem trip_v3_11 (V : Valuation τ sig (Elt F)) : afterL bodyI (after condOps V) (Proc.devRef .tc main_v3_11) = (stepRef (zTrip V) (V (Proc.devRef .tc main_v3_5)) (V (Proc.devRef .tc main_v3_6)) (V (Proc.devRef .tc main_v3_7)) (V (Proc.devRef .tc main_v3_8)) ((V (Proc.devRef .tc main_v3_10)), (V (Proc.devRef .tc main_v3_11)))).2 := by
  rw [show afterL bodyI (after condOps V) = afterH (afterG (afterE (afterD (afterC (afterB (afterA2 (afterA1 (afterA0 (after condOps V))))))))) from rfl]
  rw [afterH_v3_11,
    afterG_keep _ main_while0b_v49 (by decide +kernel),
    afterE_keep _ main_while0b_v49 (by decide +kernel),
    afterD_keep _ main_while0b_v49 (by decide +kernel),
    afterC_v49,
    afterB_v39,
    afterB_keep _ main_v3_11 (by decide +kernel),
    afterA2_v35,
    afterA2_keep _ main_v3_10 (by decide +kernel),
    afterA2_keep _ main_v3_5 (by decide +kernel),
    afterA2_keep _ main_v3_6 (by decide +kernel),
    afterA2_keep _ main_v3_11 (by decide +kernel),
    afterA1_v30,
    afterA1_keep _ main_v3_3 (by decide +kernel),
    afterA1_keep _ main_v3_4 (by decide +kernel),
    afterA1_keep _ main_v3_10 (by decide +kernel),
    afterA1_keep _ main_v3_5 (by decide +kernel),
    afterA1_keep _ main_v3_6 (by decide +kernel),
    afterA1_keep _ main_v3_11 (by decide +kernel),
    afterA0_v25,
    afterA0_keep _ main_v3_1 (by decide +kernel),
    afterA0_keep _ main_v3_2 (by decide +kernel),
    afterA0_keep _ main_v3_3 (by decide +kernel),
    afterA0_keep _ main_v3_4 (by decide +kernel),
    afterA0_keep _ main_v3_10 (by decide +kernel),
    afterA0_keep _ main_v3_5 (by decide +kernel),
    afterA0_keep _ main_v3_6 (by decide +kernel),
    afterA0_keep _ main_v3_11 (by decide +kernel),
    after_of_writes_sub condOps _ condOps_writes (r := main_v3_0) (by decide +kernel),
    after_of_writes_sub condOps _ condOps_writes (r := main_v3_9) (by decide +kernel),
    after_of_writes_sub condOps _ condOps_writes (r := main_v3_1) (by decide +kernel),
    after_of_writes_sub condOps _ condOps_writes (r := main_v3_2) (by decide +kernel),
    after_of_writes_sub condOps _ condOps_writes (r := main_v3_3) (by decide +kernel),
    after_of_writes_sub condOps _ condOps_writes (r := main_v3_4) (by decide +kernel),
    after_of_writes_sub condOps _ condOps_writes (r := main_v3_10) (by decide +kernel),
    after_of_writes_sub condOps _ condOps_writes (r := main_v3_5) (by decide +kernel),
    after_of_writes_sub condOps _ condOps_writes (r := main_v3_6) (by decide +kernel),
    after_of_writes_sub condOps _ condOps_writes (r := main_v3_11) (by decide +kernel)]
  rfl

theorem post_v18 (V : Valuation τ sig (Elt F)) : afterL postI V (Proc.devRef .tc main_v18) = lossRef (V (Proc.devRef .tc main_arg1)) (gRef (V (Proc.devRef .tc main_v3_10)) (V (Proc.devRef .tc main_arg10)) (V (Proc.devRef .tc main_arg11)) (V (Proc.devRef .tc main_arg12)) (V (Proc.devRef .tc main_arg13))) := by
  rw [show afterL postI V = afterT (afterS (afterR (afterQ1 (afterQ0 (afterP V))))) from rfl]
  rw [afterT_keep _ main_v18 (by decide +kernel),
    afterS_keep _ main_v18 (by decide +kernel),
    afterR_keep _ main_v18 (by decide +kernel),
    afterQ1_v18,
    afterQ0_v14,
    afterQ0_keep _ main_v13 (by decide +kernel),
    afterP_v12,
    afterP_v13]
  rfl

theorem post_v24 (V : Valuation τ sig (Elt F)) : afterL postI V (Proc.devRef .tc main_v24) = accRef (V (Proc.devRef .tc main_arg1)) (gRef (V (Proc.devRef .tc main_v3_10)) (V (Proc.devRef .tc main_arg10)) (V (Proc.devRef .tc main_arg11)) (V (Proc.devRef .tc main_arg12)) (V (Proc.devRef .tc main_arg13))) := by
  rw [show afterL postI V = afterT (afterS (afterR (afterQ1 (afterQ0 (afterP V))))) from rfl]
  rw [afterT_v24,
    afterS_v20,
    afterS_keep _ main_v19 (by decide +kernel),
    afterR_v19,
    afterR_keep _ main_arg1 (by decide +kernel),
    afterQ1_keep _ main_v12 (by decide +kernel),
    afterQ1_keep _ main_arg1 (by decide +kernel),
    afterQ0_keep _ main_v12 (by decide +kernel),
    afterQ0_keep _ main_arg1 (by decide +kernel),
    afterP_v12,
    afterP_keep _ main_arg1 (by decide +kernel)]
  rfl

theorem entry_v3_0 (c : Dev nD) : entryContents preI m c (Proc.devRef .tc main_v3_0) = transpose S50x2048x128 [1, 0, 2] (m ((c.tc : Thread nD τ).loc main_arg0)) transposes_S2048x50x128_S50x2048x128_1_0_2 := by
  simp only [entryContents, afterL_cons, afterL_nil]
  after_reads_simp
  rfl

theorem entry_v3_1 (c : Dev nD) : entryContents preI m c (Proc.devRef .tc main_v3_1) = m ((c.tc : Thread nD τ).loc main_arg2) := by
  simp only [entryContents, afterL_cons, afterL_nil]
  after_reads_simp
  rfl

theorem entry_v3_2 (c : Dev nD) : entryContents preI m c (Proc.devRef .tc main_v3_2) = m ((c.tc : Thread nD τ).loc main_arg3) := by
  simp only [entryContents, afterL_cons, afterL_nil]
  after_reads_simp
  rfl

theorem entry_v3_3 (c : Dev nD) : entryContents preI m c (Proc.devRef .tc main_v3_3) = m ((c.tc : Thread nD τ).loc main_arg4) := by
  simp only [entryContents, afterL_cons, afterL_nil]
  after_reads_simp
  rfl

theorem entry_v3_4 (c : Dev nD) : entryContents preI m c (Proc.devRef .tc main_v3_4) = m ((c.tc : Thread nD τ).loc main_arg5) := by
  simp only [entryContents, afterL_cons, afterL_nil]
  after_reads_simp
  rfl

theorem entry_v3_5 (c : Dev nD) : entryContents preI m c (Proc.devRef .tc main_v3_5) = m ((c.tc : Thread nD τ).loc main_arg6) := by
  simp only [entryContents, afterL_cons, afterL_nil]
  after_reads_simp
  rfl

theorem entry_v3_6 (c : Dev nD) : entryContents preI m c (Proc.devRef .tc main_v3_6) = m ((c.tc : Thread nD τ).loc main_arg7) := by
  simp only [entryContents, afterL_cons, afterL_nil]
  after_reads_simp
  rfl

theorem entry_v3_7 (c : Dev nD) : entryContents preI m c (Proc.devRef .tc main_v3_7) = m ((c.tc : Thread nD τ).loc main_arg8) := by
  simp only [entryContents, afterL_cons, afterL_nil]
  after_reads_simp
  rfl

theorem entry_v3_8 (c : Dev nD) : entryContents preI m c (Proc.devRef .tc main_v3_8) = m ((c.tc : Thread nD τ).loc main_arg9) := by
  simp only [entryContents, afterL_cons, afterL_nil]
  after_reads_simp
  rfl

theorem entry_v3_10 (c : Dev nD) : entryContents preI m c (Proc.devRef .tc main_v3_10) = broadcastInDim S2048x64 ![] bcast_S_S2048x64 (constant S_ .f32 0x00000000#32) := by
  simp only [entryContents, afterL_cons, afterL_nil]
  after_reads_simp
  rfl

theorem entry_v3_11 (c : Dev nD) : entryContents preI m c (Proc.devRef .tc main_v3_11) = broadcastInDim S2048x64x64 ![] bcast_S_S2048x64x64 (constant S_ .f32 0x00000000#32) := by
  simp only [entryContents, afterL_cons, afterL_nil]
  after_reads_simp
  rfl

/-- The features of step `k`. -/
def zAt (c : Dev nD) (k : ℕ) : Vec F S2048x64 .f32 :=
  zRef (xOf (transpose S50x2048x128 [1, 0, 2] (m ((c.tc : Thread nD τ).loc main_arg0)) transposes_S2048x50x128_S50x2048x128_1_0_2) (fun _ => Scf.iv 0#32 1#32 k)) (m ((c.tc : Thread nD τ).loc main_arg2)) (m ((c.tc : Thread nD τ).loc main_arg3)) (m ((c.tc : Thread nD τ).loc main_arg4)) (m ((c.tc : Thread nD τ).loc main_arg5))
/-- The state and the fast weights before step `k`. -/
def stRef (c : Dev nD) : ℕ → Vec F S2048x64 .f32 × Vec F S2048x64x64 .f32
  | 0 => (broadcastInDim S2048x64 ![] bcast_S_S2048x64 (constant S_ .f32 0x00000000#32), broadcastInDim S2048x64x64 ![] bcast_S_S2048x64x64 (constant S_ .f32 0x00000000#32))
  | k + 1 => stepRef (zAt m c k) (m ((c.tc : Thread nD τ).loc main_arg6)) (m ((c.tc : Thread nD τ).loc main_arg7)) (m ((c.tc : Thread nD τ).loc main_arg8)) (m ((c.tc : Thread nD τ).loc main_arg9)) (stRef c k)

theorem zTrip_atK (c : Dev nD) (k : ℕ) : zTrip (atK m k c) = zAt m c k := by
  unfold zTrip zAt
  rw [atK_keep m c main_v3_0 (by decide +kernel), atK_keep m c main_v3_1 (by decide +kernel), atK_keep m c main_v3_2 (by decide +kernel), atK_keep m c main_v3_3 (by decide +kernel), atK_keep m c main_v3_4 (by decide +kernel), atK_ctr, entry_v3_0, entry_v3_1, entry_v3_2, entry_v3_3, entry_v3_4]
  rfl

theorem atK_st (c : Dev nD) : ∀ k, atK m k c (Proc.devRef .tc main_v3_10) = (stRef m c k).1 ∧ atK m k c (Proc.devRef .tc main_v3_11) = (stRef m c k).2
  | 0 => ⟨entry_v3_10 m c, entry_v3_11 m c⟩
  | k + 1 => by
    rw [show atK m (k + 1) c = afterL bodyI (after condOps (atK m k c)) from rfl, trip_v3_10, trip_v3_11, zTrip_atK,
      (atK_st c k).1, (atK_st c k).2,
      atK_keep m c main_v3_5 (by decide +kernel), atK_keep m c main_v3_6 (by decide +kernel), atK_keep m c main_v3_7 (by decide +kernel), atK_keep m c main_v3_8 (by decide +kernel),
      entry_v3_5, entry_v3_6, entry_v3_7, entry_v3_8]
    exact ⟨rfl, rfl⟩

theorem entry_args (c : Dev nD) (r : Ref sig .tc) (h : r ∉ mainOps0_W) : entryContents preI m c (Proc.devRef .tc r) = m ((c.tc : Thread nD τ).loc r) := by
  simp only [entryContents, afterL_cons, afterL_nil]
  rw [after_of_writes_sub _ _ mainOps0_writes h]

/-- The logits. -/
def logitsAt (c : Dev nD) : Vec F S2048x64 .f32 := gRef (stRef m c 50).1 (m ((c.tc : Thread nD τ).loc main_arg10)) (m ((c.tc : Thread nD τ).loc main_arg11)) (m ((c.tc : Thread nD τ).loc main_arg12)) (m ((c.tc : Thread nD τ).loc main_arg13))

theorem final_v18 (c : Dev nD) : finalContents condOps preI bodyI postI 50 m c (Proc.devRef .tc main_v18) = lossRef (m ((c.tc : Thread nD τ).loc main_arg1)) (logitsAt m c) := by
  rw [final_eq, post_v18, after_of_writes_sub condOps _ condOps_writes (r := main_v3_10) (by decide +kernel), after_of_writes_sub condOps _ condOps_writes (r := main_arg1) (by decide +kernel), after_of_writes_sub condOps _ condOps_writes (r := main_arg10) (by decide +kernel), after_of_writes_sub condOps _ condOps_writes (r := main_arg11) (by decide +kernel), after_of_writes_sub condOps _ condOps_writes (r := main_arg12) (by decide +kernel), after_of_writes_sub condOps _ condOps_writes (r := main_arg13) (by decide +kernel), (atK_st m c 50).1,
    atK_keep m c main_arg1 (by decide +kernel), atK_keep m c main_arg10 (by decide +kernel), atK_keep m c main_arg11 (by decide +kernel), atK_keep m c main_arg12 (by decide +kernel), atK_keep m c main_arg13 (by decide +kernel),
    entry_args m c main_arg1 (by decide +kernel), entry_args m c main_arg10 (by decide +kernel), entry_args m c main_arg11 (by decide +kernel), entry_args m c main_arg12 (by decide +kernel), entry_args m c main_arg13 (by decide +kernel)]
  rfl

theorem final_v24 (c : Dev nD) : finalContents condOps preI bodyI postI 50 m c (Proc.devRef .tc main_v24) = accRef (m ((c.tc : Thread nD τ).loc main_arg1)) (logitsAt m c) := by
  rw [final_eq, post_v24, after_of_writes_sub condOps _ condOps_writes (r := main_v3_10) (by decide +kernel), after_of_writes_sub condOps _ condOps_writes (r := main_arg1) (by decide +kernel), after_of_writes_sub condOps _ condOps_writes (r := main_arg10) (by decide +kernel), after_of_writes_sub condOps _ condOps_writes (r := main_arg11) (by decide +kernel), after_of_writes_sub condOps _ condOps_writes (r := main_arg12) (by decide +kernel), after_of_writes_sub condOps _ condOps_writes (r := main_arg13) (by decide +kernel), (atK_st m c 50).1,
    atK_keep m c main_arg1 (by decide +kernel), atK_keep m c main_arg10 (by decide +kernel), atK_keep m c main_arg11 (by decide +kernel), atK_keep m c main_arg12 (by decide +kernel), atK_keep m c main_arg13 (by decide +kernel),
    entry_args m c main_arg1 (by decide +kernel), entry_args m c main_arg10 (by decide +kernel), entry_args m c main_arg11 (by decide +kernel), entry_args m c main_arg12 (by decide +kernel), entry_args m c main_arg13 (by decide +kernel)]
  rfl

end Cert.ReferenceIdeal.Gen
-- ==== Proof.AlgArg.lean ====
/- The index of a row's largest entry: the fold the reference takes over (value, index) pairs, and the least index at which the
   entry equals the largest. -/
module

public import proofs.«01_k».proof.Proof.RefState
public import Idealize.ShloMosaic.Lib.Pointwise
public import Idealize.ShloMosaic.Lib.IdealHost

@[expose] public section

set_option maxRecDepth 16384

noncomputable section

namespace Cert.Alg

open Idealize.ShloMosaic Idealize.ShloMosaic.TcCoe Idealize.ShloMosaic.Tactic
open Cert.ReferenceIdeal (reducer_argmax_f32_i32)

/-- The word that starts a float maximum. -/
abbrev low : EReal := Ideal.ofBits .f32 0xFF800000#32

theorem low_eq : low = ⊥ := by
  simp [low, Ideal.ofBits, Ideal.ieee]

/-- The pair `p` is at least as good as `q`: a larger value, or the same one at an index no larger. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- One step of the reference's fold keeps one of the two pairs, and the one kept is at least as good as both. -/
theorem reducer_step (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  rcases lt_trichotomy a b with h | h | h
  · have e : reducer_argmax_f32_i32 (F := Ideal) (a, i) (b, j) = (b, j) := by
      simp [reducer_argmax_f32_i32, Ideal.cmpf_def, Ideal.cmp, h.not_gt, h.ne, IntOp.ori, IntOp.andi, Scalar.select]
    rw [e]
    exact ⟨.inr rfl, .inl h, Beats.refl _⟩
  · subst h
    by_cases hi : i.slt j
    · have e : reducer_argmax_f32_i32 (F := Ideal) (a, i) (a, j) = (a, i) := by
        simp [reducer_argmax_f32_i32, Ideal.cmpf_def, Ideal.cmp, IntOp.ori, IntOp.andi, Scalar.select, IntOp.cmpi, hi]
      rw [e]
      refine ⟨.inl rfl, Beats.refl _, .inr ⟨rfl, ?_⟩⟩
      have : i.toInt < j.toInt := by simpa [BitVec.slt] using hi
      exact this.le
    · have e : reducer_argmax_f32_i32 (F := Ideal) (a, i) (a, j) = (a, j) := by
        simp [reducer_argmax_f32_i32, Ideal.cmpf_def, Ideal.cmp, IntOp.ori, IntOp.andi, Scalar.select, IntOp.cmpi, hi]
      rw [e]
      refine ⟨.inr rfl, .inr ⟨rfl, ?_⟩, Beats.refl _⟩
      have : ¬ i.toInt < j.toInt := by simpa [BitVec.slt] using hi
      exact not_lt.1 this
  · have e : reducer_argmax_f32_i32 (F := Ideal) (a, i) (b, j) = (a, i) := by
      simp [reducer_argmax_f32_i32, Ideal.cmpf_def, Ideal.cmp, h, h.ne', IntOp.ori, IntOp.andi, Scalar.select]
    rw [e]
    exact ⟨.inl rfl, Beats.refl _, .inl h⟩

/-- The fold's result is one of the pairs it meets and at least as good as each. -/
theorem fold_best : ∀ (L : List (EReal × BitVec 32)) (p : EReal × BitVec 32),
    (L.foldl (reducer_argmax_f32_i32 (F := Ideal)) p = p ∨ L.foldl (reducer_argmax_f32_i32 (F := Ideal)) p ∈ L)
      ∧ Beats (L.foldl (reducer_argmax_f32_i32 (F := Ideal)) p) p ∧ ∀ q ∈ L, Beats (L.foldl (reducer_argmax_f32_i32 (F := Ideal)) p) q
  | [], p => ⟨.inl rfl, Beats.refl _, by simp⟩
  | a :: L, p => by
    obtain ⟨h1, h2, h3⟩ := fold_best L (reducer_argmax_f32_i32 (F := Ideal) p a)
    obtain ⟨s1, s2, s3⟩ := reducer_step p a
    refine ⟨?_, h2.trans s2, fun q hq => ?_⟩
    · rcases h1 with h1 | h1
      · rcases s1 with s1 | s1
        · exact .inl (h1.trans s1)
        · exact .inr (List.mem_cons.2 (.inl (h1.trans s1)))
      · exact .inr (List.mem_cons_of_mem _ h1)
    · rcases List.mem_cons.1 hq with rfl | hq
      · exact h2.trans s3
      · exact h3 q hq

theorem ofNat_toInt (x : Fin 64) : (BitVec.ofNat 32 x.val).toInt = x.val :=
  (by decide +kernel : ∀ x : Fin 64, (BitVec.ofNat 32 x.val).toInt = x.val) x

theorem minsi_or (x y : BitVec 32) : (IntOp.minsi x y = x ∨ IntOp.minsi x y = y) ∧ (IntOp.minsi x y).toInt ≤ x.toInt ∧ (IntOp.minsi x y).toInt ≤ y.toInt := by
  unfold IntOp.minsi
  split
  · rename_i h
    have : x.toInt < y.toInt := by simpa [BitVec.slt] using h
    exact ⟨.inl rfl, le_rfl, this.le⟩
  · rename_i h
    have : ¬ x.toInt < y.toInt := by simpa [BitVec.slt] using h
    exact ⟨.inr rfl, not_lt.1 this, le_rfl⟩

/-- A fold of the signed minimum is one of the words it meets and no larger than any. -/
theorem fold_min {ι : Type} [DecidableEq ι] (b : BitVec 32) (f : ι → BitVec 32) (s : Finset ι) :
    (s.fold IntOp.minsi b f = b ∨ ∃ x ∈ s, s.fold IntOp.minsi b f = f x)
      ∧ ∀ x ∈ s, (s.fold IntOp.minsi b f).toInt ≤ (f x).toInt := by
  induction s using Finset.induction_on with
  | empty => simp
  | insert a s ha ih =>
    rw [Finset.fold_insert ha]
    obtain ⟨h1, h2⟩ := ih
    obtain ⟨m1, m2, m3⟩ := minsi_or (f a) (s.fold IntOp.minsi b f)
    refine ⟨?_, fun x hx => ?_⟩
    · rcases m1 with m1 | m1
      · exact .inr ⟨a, Finset.mem_insert_self _ _, m1⟩
      · rcases h1 with h1 | ⟨x, hx, h1⟩
        · exact .inl (m1.trans h1)
        · exact .inr ⟨x, Finset.mem_insert_of_mem hx, m1.trans h1⟩
    · rcases Finset.mem_insert.1 hx with rfl | hx
      · exact m2
      · exact m3.trans (h2 x hx)

theorem le_foldMax (g : Fin 64 → EReal) (x : Fin 64) : g x ≤ Finset.univ.fold max low g :=
  (Finset.le_fold_max _).2 (.inr ⟨x, Finset.mem_univ _, le_rfl⟩)

/-- The index the fold over the pairs ends with is the least one at which the entry is the largest. -/
theorem arg_eq (g : Fin 64 → EReal) (L : List (EReal × BitVec 32)) (h : ∀ x : Fin 64, (g x, BitVec.ofNat 32 x.val) ∈ L)
    (h' : ∀ p ∈ L, ∃ x : Fin 64, p = (g x, BitVec.ofNat 32 x.val)) :
    (L.foldl (reducer_argmax_f32_i32 (F := Ideal)) (low, 0#32)).2
      = Finset.univ.fold IntOp.minsi 2147483647#32 (fun x : Fin 64 => if g x = Finset.univ.fold max low g then BitVec.ofNat 32 x.val else 64#32) := by
  obtain ⟨h1, -, h3⟩ := fold_best L (low, 0#32)
  set p := L.foldl (reducer_argmax_f32_i32 (F := Ideal)) (low, 0#32) with hp
  obtain ⟨m1, m2⟩ := fold_min 2147483647#32 (fun x : Fin 64 => if g x = Finset.univ.fold max low g then BitVec.ofNat 32 x.val else 64#32) Finset.univ
  set q := Finset.univ.fold IntOp.minsi 2147483647#32 (fun x : Fin 64 => if g x = Finset.univ.fold max low g then BitVec.ofNat 32 x.val else 64#32) with hq
  -- the pair's value is the largest
  have hge : ∀ x, g x ≤ p.1 := fun x => by
    rcases h3 _ (h x) with hh | ⟨hh, -⟩
    · exact hh.le
    · exact hh.le
  -- the pair is the row's own at some index
  obtain ⟨y, hy⟩ : ∃ y : Fin 64, p = (g y, BitVec.ofNat 32 y.val) := by
    rcases h1 with h1 | h1
    · refine ⟨0, ?_⟩
      have : g 0 = low := by
        refine le_antisymm ((hge 0).trans (by rw [h1])) ?_
        rw [low_eq]
        exact bot_le
      rw [h1, this]
      rfl
    · exact h' _ h1
  have hM : g y = Finset.univ.fold max low g := by
    refine le_antisymm (le_foldMax g y) ((Finset.fold_max_le _).2 ⟨?_, fun x _ => ?_⟩)
    · rw [low_eq]
      exact bot_le
    · have := hge x
      rwa [hy] at this
  have hqy : q.toInt ≤ y.val := by
    have := m2 y (Finset.mem_univ _)
    simp only [hM, if_true] at this
    rwa [ofNat_toInt] at this
  have hyl := y.isLt
  have hyq : (y.val : ℤ) ≤ q.toInt := by
    rcases m1 with m1 | ⟨x, -, m1⟩
    · rw [m1, show (2147483647#32 : BitVec 32).toInt = 2147483647 by decide]
      omega
    · by_cases hx : g x = Finset.univ.fold max low g
      · rw [if_pos hx] at m1
        rw [m1, ofNat_toInt]
        rcases h3 _ (h x) with hh | ⟨-, hh⟩
        · rw [hy] at hh
          exact absurd (hx.trans hM.symm) hh.ne
        · rw [hy] at hh
          simpa only [ofNat_toInt] using hh
      · rw [if_neg hx] at m1
        rw [m1, show (64#32 : BitVec 32).toInt = 64 by decide]
        omega
  rw [hy]
  apply BitVec.toInt_inj.1
  rw [ofNat_toInt]
  omega

/-- The reference's index of the largest entry of row `b`. -/
theorem argRef_apply (g : FVec Ideal Cert.ReferenceIdeal.S2048x64 .f32) (b : Fin 2048) :
    Cert.ReferenceIdeal.Gen.argRef (F := Ideal) g (ix1 b)
      = Finset.univ.fold IntOp.minsi 2147483647#32 (fun x : Fin 64 =>
          if g (ix2 b x) = Finset.univ.fold max low (fun y : Fin 64 => g (ix2 b y)) then BitVec.ofNat 32 x.val else 64#32) := by
  have key : ∀ i : Cert.ReferenceIdeal.S2048x64.Idx,
      Cert.ReferenceIdeal.Gen.reducesTo_S2048x64_S2048_d1.drop i = ix1 (i 0) := fun i => by
    funext a
    fin_cases a
    rfl
  unfold Cert.ReferenceIdeal.Gen.argRef
  rw [Ideal.argReduce_eq_reduce2, Host.reduce2_eq_foldl_fiber]
  refine arg_eq (fun x => g (ix2 b x)) _ (fun x => ?_) (fun p hp => ?_)
  · unfold Host.argReduceFiber
    refine List.mem_map.2 ⟨Cert.ReferenceIdeal.S2048x64.rowMajor (ix2 b x), ?_, ?_⟩
    · simp only [List.mem_filter, List.mem_finRange, true_and, decide_eq_true_eq, Equiv.symm_apply_apply]
      exact key _
    · simp only [Equiv.symm_apply_apply]
      rfl
  · unfold Host.argReduceFiber at hp
    obtain ⟨n, hn, rfl⟩ := List.mem_map.1 hp
    simp only [List.mem_filter, List.mem_finRange, true_and, decide_eq_true_eq] at hn
    generalize Cert.ReferenceIdeal.S2048x64.rowMajor.symm n = i at hn ⊢
    obtain ⟨b', x, rfl⟩ : ∃ (b' : Fin 2048) (x : Fin 64), i = ix2 b' x := ⟨i 0, i 1, eq_ix2 i⟩
    have hb : b' = b := by
      have := congrFun ((key _).symm.trans hn) 0
      exact this
    subst hb
    exact ⟨x, rfl⟩

end Cert.Alg
-- ==== Proof.AlgStep.lean ====
/- One step of the kernel's scan against one step of the reference's: the kernel keeps the fast weights divided by a power of the
   decay and multiplies what it retrieves by that power, so the two steps agree on the extended reals. -/
module

public import proofs.«01_k».proof.Proof.AlgArg
public import proofs.«01_k».proof.Proof.ScanStep

@[expose] public section

set_option maxRecDepth 16384

noncomputable section

namespace Cert.Alg

open Idealize.ShloMosaic Idealize.ShloMosaic.TcCoe Idealize.ShloMosaic.Tactic
open Cert.ReferenceIdeal.Gen (zRef hRef aRef sRef meanRef nRef gRef lsRef lossRef accRef argRef)
open Cert.KernelIdeal.Gen

/-! ## Positive reals times extended reals -/

theorem pos_mul_add {u : ℝ} (hu : 0 < u) (x y : EReal) : (u : EReal) * (x + y) = u * x + u * y :=
  EReal.left_distrib_of_nonneg_of_ne_top (EReal.coe_nonneg.2 hu.le) (EReal.coe_ne_top u) x y

theorem pos_mul_sum {ι : Type} [DecidableEq ι] {u : ℝ} (hu : 0 < u) (s : Finset ι) (f : ι → EReal) :
    (u : EReal) * ∑ i ∈ s, f i = ∑ i ∈ s, (u : EReal) * f i := by
  induction s using Finset.induction_on with
  | empty => simp
  | insert a s ha ih => rw [Finset.sum_insert ha, Finset.sum_insert ha, pos_mul_add hu, ih]

theorem coe_mul_coe (a b : ℝ) (x : EReal) : (a : EReal) * ((b : EReal) * x) = ((a * b : ℝ) : EReal) * x := by
  rw [← mul_assoc, ← EReal.coe_mul]

/-! ## The pieces of one step -/

variable {x2 : Vec Ideal Cert.KernelIdeal.S1x64x2048 .f32} {x3 x4 : Vec Ideal Cert.KernelIdeal.S64x64 .f32} {h : Vec Ideal Cert.KernelIdeal.S64x2048 .f32}
  {z h' : Vec Ideal Cert.ReferenceIdeal.S2048x64 .f32} {w c : Vec Ideal Cert.ReferenceIdeal.S64x64 .f32}

theorem zc_eq (hz : ∀ j b, x2 (ix3 0 j b) = z (ix2 b j)) (hc : ∀ i j, x4 (ix2 j i) = c (ix2 i j)) (j : Fin 64) (b : Fin 2048) :
    zcOf (F := Ideal) x2 x4 (ix2 j b) = ∑ i : Fin 64, z (ix2 b i) * c (ix2 i j) := by
  pointwise [zcOf, k1_pay115]
  exact Finset.sum_congr rfl fun i _ => by rw [hz, hc, mul_comm]

/-- The state before the retrieval. -/
theorem hn_eq (hz : ∀ j b, x2 (ix3 0 j b) = z (ix2 b j)) (hw : ∀ i j, x3 (ix2 j i) = w (ix2 i j)) (hc : ∀ i j, x4 (ix2 j i) = c (ix2 i j))
    (hh : ∀ j b, h (ix2 j b) = h' (ix2 b j)) (j : Fin 64) (b : Fin 2048) :
    hnOf (F := Ideal) x2 x3 x4 h (ix2 j b) = hRef (F := Ideal) h' z w c (ix2 b j) := by
  pointwise [hnOf, k1_pay117, k1_pay116, k1_pay115, hRef, Cert.ReferenceIdeal.Gen.mul64, Cert.ReferenceIdeal.Gen.relu64]
  refine congrArg (fun x : EReal => max x 0) (congrArg₂ (fun x y : EReal => x + y) ?_ ?_)
  · exact Finset.sum_congr rfl fun i _ => by rw [hw, hh, mul_comm]
  · exact Finset.sum_congr rfl fun i _ => by rw [hz, hc, mul_comm]

/-- The vector the fast weights are updated with: the state times an entry of the first table. -/
theorem e_eq (i : Cert.KernelIdeal.grid1.Coords) (x0 : Vec Ideal Cert.KernelIdeal.S50 .f32) (j : Fin 64) (b : Fin 2048) :
    eOf (F := Ideal) i x0 x2 x3 x4 h (ix2 j b) = atOf i x0 * hnOf (F := Ideal) x2 x3 x4 h (ix2 j b) := by
  pointwise [eOf, k1_pay118]
  unfold hnOf
  pointwise [k1_pay117]

theorem tileSum_eq (e hn : Vec Ideal Cert.KernelIdeal.S64x2048 .f32) (S : Vec Ideal Cert.KernelIdeal.S64x64x2048 .f32) (k : Fin Cert.KernelIdeal.k1_t2_loop.trips) (x : Cert.KernelIdeal.S64x2048.Idx) :
    ∀ (n : ℕ) (hn' : n < 32), (tileSum (F := Ideal) e hn S k n hn' x : EReal) = ∑ u : Fin (n + 1), (addsR (F := Ideal) e hn S (rowOf k ⟨u.val, by omega⟩) x : EReal)
  | 0, _ => by
    rw [Fin.sum_univ_one]
    rfl
  | n + 1, hn' => by
    rw [Fin.sum_univ_castSucc]
    exact congrArg₂ (fun x y : EReal => x + y) (tileSum_eq e hn S k x n _) rfl

/-- The sum over the tiles is the sum over the 64 rows. -/
theorem sumR_eq (e hn : Vec Ideal Cert.KernelIdeal.S64x2048 .f32) (S : Vec Ideal Cert.KernelIdeal.S64x64x2048 .f32) (j : Fin 64) (b : Fin 2048) :
    (sumR (F := Ideal) e hn S (k1_pay119 (F := Ideal)) (ix2 j b) : EReal)
      = ∑ i : Fin 64, e (ix2 i b) * rowsA (F := Ideal) e hn S (ix3 i j b) := by
  have h0 : (k1_pay119 (F := Ideal) (ix2 j b) : EReal) = 0 := by pointwise [k1_pay119]
  refine Eq.trans (b := ((k1_pay119 (F := Ideal) (ix2 j b) : EReal) + (tileSum (F := Ideal) e hn S ⟨0, by decide +kernel⟩ 31 (by omega) (ix2 j b) : EReal))
    + (tileSum (F := Ideal) e hn S ⟨1, by decide +kernel⟩ 31 (by omega) (ix2 j b) : EReal)) rfl ?_
  rw [h0, zero_add, tileSum_eq, tileSum_eq, Fin.sum_univ_two_halves 32 32 rfl]
  rfl

/-! ## The scaled fast weights -/

section Scaled

variable {E H : Fin 64 → EReal} {ρ u κ : ℝ}

/-- The fast weights after the step, scaled back, are the reference's. -/
theorem scaled_step (hu : 0 < u) (hρ : 0 < ρ) (x a hi hj : EReal) (ha : a = ((u * ρ⁻¹ : ℝ) : EReal) * x) :
    (ρ : EReal) * a + ((1 / 2 : ℝ) : EReal) * (hi * hj) = (u : EReal) * (x + ((1 / 2 * u⁻¹ : ℝ) : EReal) * hi * hj) := by
  rw [pos_mul_add hu, ha, coe_mul_coe, mul_assoc ((1 / 2 * u⁻¹ : ℝ) : EReal), coe_mul_coe,
    show ρ * (u * ρ⁻¹) = u by field_simp, show u * (1 / 2 * u⁻¹) = 1 / 2 by field_simp]

/-- What is retrieved, scaled back, is the reference's. -/
theorem scaled_sum (hu : 0 < u) (hs A : Fin 64 → EReal) :
    ((2 * u ^ 2 : ℝ) : EReal) * ∑ i, ((1 / 2 * u⁻¹ : ℝ) : EReal) * hs i * A i = ∑ i, hs i * ((u : EReal) * A i) := by
  rw [pos_mul_sum (by positivity)]
  refine Finset.sum_congr rfl fun i _ => ?_
  rw [mul_assoc ((1 / 2 * u⁻¹ : ℝ) : EReal), coe_mul_coe, show 2 * u ^ 2 * (1 / 2 * u⁻¹) = u by field_simp, mul_left_comm]

end Scaled

end Cert.Alg
-- ==== Proof.AlgScan.lean ====
/- The scan's step, its loss and its accuracy, each equal to the reference's; and the features the first call computes. -/
module

public import proofs.«01_k».proof.Proof.AlgStep

@[expose] public section

set_option maxRecDepth 16384

noncomputable section

namespace Cert.Alg

open Idealize.ShloMosaic Idealize.ShloMosaic.TcCoe Idealize.ShloMosaic.Tactic
open Cert.ReferenceIdeal.Gen (zRef hRef aRef sRef meanRef nRef gRef lsRef lossRef accRef argRef stepRef)
open Cert.KernelIdeal.Gen

/-! ## The constants -/

/-- The decay, as the programs hold it. -/
def lam : ℝ := 15938355 / 16777216

theorem lam_pos : 0 < lam := by unfold lam; norm_num

theorem word_lam : Ideal.ofBits .f32 0x3F733333#32 = ((lam : ℝ) : EReal) := by
  simp [Ideal.ofBits, Ideal.ieee, lam]
  rw [← EReal.coe_mul]
  norm_num
theorem word_half : Ideal.ofBits .f32 0x3F000000#32 = ((1 / 2 : ℝ) : EReal) := by
  simp [Ideal.ofBits, Ideal.ieee]
  rw [← EReal.coe_mul]
  norm_num
theorem word_two : Ideal.ofBits .f32 0x40000000#32 = ((2 : ℝ) : EReal) := by
  simp [Ideal.ofBits, Ideal.ieee]
  rw [← EReal.coe_mul]
  norm_num

/-! ## One step -/

/-- The kernel's state and the reference's before a step, `u` being the decay's power at the step. -/
structure Same (u : ℝ) (h : Vec Ideal Cert.KernelIdeal.S64x2048 .f32) (a : Vec Ideal Cert.KernelIdeal.S64x64x2048 .f32)
    (p : Vec Ideal Cert.ReferenceIdeal.S2048x64 .f32 × Vec Ideal Cert.ReferenceIdeal.S2048x64x64 .f32) : Prop where
  hid : ∀ (j : Fin 64) (b : Fin 2048), h (ix2 j b) = p.1 (ix2 b j)
  fast : ∀ (b : Fin 2048) (i j : Fin 64), (p.2 (ix3 b i j) : EReal) = ((u * lam⁻¹ : ℝ) : EReal) * (a (ix3 i j b) : EReal)

section Step

variable {i : Cert.KernelIdeal.grid1.Coords} {x0 x1 : Vec Ideal Cert.KernelIdeal.S50 .f32}
  {x2 : Vec Ideal Cert.KernelIdeal.S1x64x2048 .f32} {x3 x4 : Vec Ideal Cert.KernelIdeal.S64x64 .f32} {x5 x6 h : Vec Ideal Cert.KernelIdeal.S64x2048 .f32}
  {a : Vec Ideal Cert.KernelIdeal.S64x64x2048 .f32}
  {z : Vec Ideal Cert.ReferenceIdeal.S2048x64 .f32} {w c : Vec Ideal Cert.ReferenceIdeal.S64x64 .f32} {g e : Vec Ideal Cert.ReferenceIdeal.S64 .f32}
  {p : Vec Ideal Cert.ReferenceIdeal.S2048x64 .f32 × Vec Ideal Cert.ReferenceIdeal.S2048x64x64 .f32} {u : ℝ}

/-- The fast weights after the step. -/
theorem fast_eq (hu : 0 < u) (hS : Same u h a p) (h0 : (atOf (F := Ideal) i x0 : EReal) = ((1 / 2 * u⁻¹ : ℝ) : EReal))
    (hz : ∀ j b, x2 (ix3 0 j b) = z (ix2 b j)) (hw : ∀ i j, x3 (ix2 j i) = w (ix2 i j)) (hc : ∀ i j, x4 (ix2 j i) = c (ix2 i j))
    (b : Fin 2048) (k j : Fin 64) :
    (aRef (F := Ideal) p.2 (hRef (F := Ideal) p.1 z w c) (ix3 b k j) : EReal)
      = (u : EReal) * (aOf (F := Ideal) i x0 x2 x3 x4 h a (ix3 k j b) : EReal) := by
  have hA : (aOf (F := Ideal) i x0 x2 x3 x4 h a (ix3 k j b) : EReal)
      = a (ix3 k j b) + eOf (F := Ideal) i x0 x2 x3 x4 h (ix2 k b) * hnOf (F := Ideal) x2 x3 x4 h (ix2 j b) := rfl
  rw [hA, e_eq, h0, hn_eq hz hw hc hS.hid, hn_eq hz hw hc hS.hid, ← scaled_step hu lam_pos _ _ _ _ (hS.fast b k j), ← word_lam, ← word_half]
  pointwise [aRef]

/-- The normalisation's input. -/
theorem pre_eq (hu : 0 < u) (hS : Same u h a p) (h0 : (atOf (F := Ideal) i x0 : EReal) = ((1 / 2 * u⁻¹ : ℝ) : EReal))
    (h1 : (atOf (F := Ideal) i x1 : EReal) = ((2 * u ^ 2 : ℝ) : EReal))
    (hz : ∀ j b, x2 (ix3 0 j b) = z (ix2 b j)) (hw : ∀ i j, x3 (ix2 j i) = w (ix2 i j)) (hc : ∀ i j, x4 (ix2 j i) = c (ix2 i j))
    (j : Fin 64) (b : Fin 2048) :
    ((∑ k : Fin 64, x3 (ix2 j k) * hnOf (F := Ideal) x2 x3 x4 h (ix2 k b)) + zcOf (F := Ideal) x2 x4 (ix2 j b)
        + atOf (F := Ideal) i x1 * rOf (F := Ideal) i x0 x2 x3 x4 h a (ix2 j b) : EReal)
      = sRef (F := Ideal) (hRef (F := Ideal) p.1 z w c) z (aRef (F := Ideal) p.2 (hRef (F := Ideal) p.1 z w c)) w c (ix2 b j) := by
  have hr : (rOf (F := Ideal) i x0 x2 x3 x4 h a (ix2 j b) : EReal)
      = ∑ k : Fin 64, eOf (F := Ideal) i x0 x2 x3 x4 h (ix2 k b) * aOf (F := Ideal) i x0 x2 x3 x4 h a (ix3 k j b) := sumR_eq _ _ _ j b
  have hr' : (atOf (F := Ideal) i x1 * rOf (F := Ideal) i x0 x2 x3 x4 h a (ix2 j b) : EReal)
      = ∑ k : Fin 64, hRef (F := Ideal) p.1 z w c (ix2 b k) * aRef (F := Ideal) p.2 (hRef (F := Ideal) p.1 z w c) (ix3 b k j) := by
    rw [hr, h1, Finset.sum_congr rfl fun k _ => by rw [e_eq, h0, hn_eq hz hw hc hS.hid], scaled_sum hu]
    exact Finset.sum_congr rfl fun k _ => by rw [fast_eq hu hS h0 hz hw hc]
  rw [hr', zc_eq hz hc]
  pointwise [sRef, Cert.ReferenceIdeal.Gen.mul64]
  refine congrArg₂ (fun x y : EReal => x + y) (congrArg₂ (fun x y : EReal => x + y) ?_ rfl) rfl
  exact Finset.sum_congr rfl fun k _ => by rw [hw, hn_eq hz hw hc hS.hid, mul_comm]

/-- The normalisation, of inputs that agree. -/
theorem norm_eq (zc hn r : FVec Ideal Cert.KernelIdeal.S64x2048 .f32) (q : Elt Ideal .f32) (s : Vec Ideal Cert.ReferenceIdeal.S2048x64 .f32)
    (hs : ∀ (j : Fin 64) (b : Fin 2048), ((∑ k : Fin 64, x3 (ix2 j k) * hn (ix2 k b)) + zc (ix2 j b) + q * r (ix2 j b) : EReal) = s (ix2 b j))
    (hg : ∀ j b, x5 (ix2 j b) = g (ix1 j)) (he : ∀ j b, x6 (ix2 j b) = e (ix1 j)) (j : Fin 64) (b : Fin 2048) :
    k1_pay124 (F := Ideal) zc hn q r x3 x5 x6 (ix2 j b) = nRef (F := Ideal) s (meanRef (F := Ideal) s) g e (ix2 b j) := by
  unfold_payloads
  pointwise [nRef, meanRef, Cert.ReferenceIdeal.Gen.relu64, Cert.ReferenceIdeal.Gen.row64]
  simp only [hs, hg, he]

/-- The rows after the step. -/
theorem hs_eq (hu : 0 < u) (hS : Same u h a p) (h0 : (atOf (F := Ideal) i x0 : EReal) = ((1 / 2 * u⁻¹ : ℝ) : EReal))
    (h1 : (atOf (F := Ideal) i x1 : EReal) = ((2 * u ^ 2 : ℝ) : EReal))
    (hz : ∀ j b, x2 (ix3 0 j b) = z (ix2 b j)) (hw : ∀ i j, x3 (ix2 j i) = w (ix2 i j)) (hc : ∀ i j, x4 (ix2 j i) = c (ix2 i j))
    (hg : ∀ j b, x5 (ix2 j b) = g (ix1 j)) (he : ∀ j b, x6 (ix2 j b) = e (ix1 j)) (j : Fin 64) (b : Fin 2048) :
    hsOf (F := Ideal) i x0 x1 x2 x3 x4 x5 x6 h a (ix2 j b) = (stepRef (F := Ideal) z w c g e p).1 (ix2 b j) :=
  norm_eq _ _ _ _ _ (pre_eq hu hS h0 h1 hz hw hc) hg he j b

/-- The state after the step. -/
theorem step_same (hu : 0 < u) (hS : Same u h a p) (h0 : (atOf (F := Ideal) i x0 : EReal) = ((1 / 2 * u⁻¹ : ℝ) : EReal))
    (h1 : (atOf (F := Ideal) i x1 : EReal) = ((2 * u ^ 2 : ℝ) : EReal))
    (hz : ∀ j b, x2 (ix3 0 j b) = z (ix2 b j)) (hw : ∀ i j, x3 (ix2 j i) = w (ix2 i j)) (hc : ∀ i j, x4 (ix2 j i) = c (ix2 i j))
    (hg : ∀ j b, x5 (ix2 j b) = g (ix1 j)) (he : ∀ j b, x6 (ix2 j b) = e (ix1 j)) :
    Same (u * lam) (hOf (F := Ideal) i x0 x1 x2 x3 x4 x5 x6 h a) (aOf (F := Ideal) i x0 x2 x3 x4 h a) (stepRef (F := Ideal) z w c g e p) where
  hid j b := by
    refine Eq.trans ?_ (hs_eq hu hS h0 h1 hz hw hc hg he j b)
    unfold hOf hsOf
    pointwise [k1_pay125]
  fast b k j := by
    rw [mul_inv_cancel_right₀ lam_pos.ne']
    exact fast_eq hu hS h0 hz hw hc b k j

end Step

/-! ## The results, of the last rows -/

section Head

variable {x7 x11 s : Vec Ideal Cert.KernelIdeal.S64x2048 .f32} {x8 : Vec Ideal Cert.KernelIdeal.S256x64 .f32} {x9 : Vec Ideal Cert.KernelIdeal.S256x2048 .f32}
  {x10 : Vec Ideal Cert.KernelIdeal.S64x256 .f32}
  {h t : Vec Ideal Cert.ReferenceIdeal.S2048x64 .f32} {w3 : Vec Ideal Cert.ReferenceIdeal.S64x256 .f32} {b3 : Vec Ideal Cert.ReferenceIdeal.S256 .f32}
  {w4 : Vec Ideal Cert.ReferenceIdeal.S256x64 .f32} {b4 : Vec Ideal Cert.ReferenceIdeal.S64 .f32}

theorem logits_eq (hs : ∀ j b, s (ix2 j b) = h (ix2 b j)) (h8 : ∀ i j, x8 (ix2 j i) = w3 (ix2 i j)) (h9 : ∀ j b, x9 (ix2 j b) = b3 (ix1 j))
    (h10 : ∀ i j, x10 (ix2 j i) = w4 (ix2 i j)) (h11 : ∀ j b, x11 (ix2 j b) = b4 (ix1 j)) (j : Fin 64) (b : Fin 2048) :
    k1_pay108 (F := Ideal) s x8 x9 x10 x11 (ix2 j b) = gRef (F := Ideal) h w3 b3 w4 b4 (ix2 b j) := by
  pointwise [k1_pay108, gRef, Cert.ReferenceIdeal.Gen.relu256, Cert.ReferenceIdeal.Gen.row256, Cert.ReferenceIdeal.Gen.row64]
  simp only [hs, h8, h9, h10, h11]
  refine congrArg₂ (fun x y : EReal => x + y) (Finset.sum_congr rfl fun k _ => ?_) rfl
  rw [mul_comm]
  refine congrArg₂ (fun x y : EReal => max (x + y) 0 * w4 (ix2 k j)) (Finset.sum_congr rfl fun l _ => mul_comm _ _) rfl

theorem max_low (f : Fin 64 → EReal) : max low (Finset.univ.fold max low f) = Finset.univ.fold max low f :=
  max_eq_right ((Finset.le_fold_max _).2 (.inl le_rfl))

/-- The loss. -/
theorem loss_eq (L : Vec Ideal Cert.ReferenceIdeal.S2048x64 .f32)
    (hL : ∀ (j : Fin 64) (b : Fin 2048), k1_pay108 (F := Ideal) s x8 x9 x10 x11 (ix2 j b) = L (ix2 b j)) (h7 : ∀ j b, x7 (ix2 j b) = t (ix2 b j))
    (i : Cert.ReferenceIdeal.S_.Idx) :
    lossOf (F := Ideal) s x7 x8 x9 x10 x11 (ix2 0 0) = lossRef (F := Ideal) t L i := by
  pointwise [lossOf, k1_pay111, k1_pay110, k1_pay109, lossRef, lsRef, Cert.ReferenceIdeal.Gen.avgRef, Cert.ReferenceIdeal.Gen.shiftRef, Cert.ReferenceIdeal.Gen.col64]
  simp only [hL, h7, zero_sub]
  have hm : ∀ b : Fin 2048, max (Ideal.ofBits .f32 0xFF800000#32) (Finset.univ.fold max (Ideal.ofBits .f32 0xFF800000#32) (fun y : Fin 64 => (L (ix2 b y) : EReal)))
      = Finset.univ.fold max (Ideal.ofBits .f32 0xFF800000#32) (fun y : Fin 64 => (L (ix2 b y) : EReal)) := fun b => max_low _
  simp only [hm]

theorem eq_word (x y : BitVec 32) : (FloatOps.sitofp (F := Ideal) .f32 (BitVec.setWidth 32 (IntOp.cmpi .eq x y)) : EReal)
    = FloatOps.uitofp (F := Ideal) .f32 (IntOp.cmpi .eq x y) := by
  show (((BitVec.setWidth 32 (IntOp.cmpi .eq x y)).toInt : ℝ) : EReal) = (((IntOp.cmpi .eq x y).toNat : ℝ) : EReal)
  generalize IntOp.cmpi .eq x y = v
  have : ∀ v : BitVec 1, (BitVec.setWidth 32 v).toInt = (v.toNat : ℤ) := by decide
  rw [this v]
  simp

/-- The accuracy. -/
theorem acc_eq (L : Vec Ideal Cert.ReferenceIdeal.S2048x64 .f32)
    (hL : ∀ (j : Fin 64) (b : Fin 2048), k1_pay108 (F := Ideal) s x8 x9 x10 x11 (ix2 j b) = L (ix2 b j)) (h7 : ∀ j b, x7 (ix2 j b) = t (ix2 b j))
    (i : Cert.ReferenceIdeal.S_.Idx) :
    accOf (F := Ideal) s x7 x8 x9 x10 x11 (ix2 0 0) = accRef (F := Ideal) t L i := by
  pointwise [accOf, k1_pay1, k1_pay110, k1_pay112, k1_pay109, accRef, Cert.ReferenceIdeal.Gen.avgRef]
  simp only [hL, h7, argRef_apply, eq_word]

end Head

/-! ## The features -/

theorem feat_eq (x : Vec Ideal Cert.KernelIdeal.S1x1024x128 .f32) (x1 : Vec Ideal Cert.KernelIdeal.S128x256 .f32) (x2 : Vec Ideal Cert.KernelIdeal.S1x256 .f32)
    (x3 : Vec Ideal Cert.KernelIdeal.S256x64 .f32) (x4 : Vec Ideal Cert.KernelIdeal.S1x64 .f32)
    (y : Vec Ideal Cert.ReferenceIdeal.S2048x128 .f32) (w1 : Vec Ideal Cert.ReferenceIdeal.S128x256 .f32) (b1 : Vec Ideal Cert.ReferenceIdeal.S256 .f32)
    (w2 : Vec Ideal Cert.ReferenceIdeal.S256x64 .f32) (b2 : Vec Ideal Cert.ReferenceIdeal.S64 .f32) (b : Fin 1024) (b' : Fin 2048)
    (hx : ∀ i, x (ix3 0 b i) = y (ix2 b' i)) (h1 : ∀ i j, x1 (ix2 i j) = w1 (ix2 i j)) (h2 : ∀ j, x2 (ix2 0 j) = b1 (ix1 j))
    (h3 : ∀ i j, x3 (ix2 i j) = w2 (ix2 i j)) (h4 : ∀ j, x4 (ix2 0 j) = b2 (ix1 j)) (j : Fin 64) :
    k0_pay1 (F := Ideal) x x1 x2 x3 x4 (ix3 0 b j) = zRef (F := Ideal) y w1 b1 w2 b2 (ix2 b' j) := by
  pointwise [k0_pay1, zRef, Cert.ReferenceIdeal.Gen.relu64, Cert.ReferenceIdeal.Gen.relu256, Cert.ReferenceIdeal.Gen.row64, Cert.ReferenceIdeal.Gen.row256]
  simp only [hx, h1, h2, h3, h4]

end Cert.Alg
-- ==== Proof.AlgBlocks.lean ====
/- The blocks the two calls read and write, at an index of the array they lie in. -/
module

public import proofs.«01_k».proof.Proof.WholeRun
public import proofs.«01_k».proof.Proof.AlgScan
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Gen

open Idealize.ShloMosaic Idealize.ShloMosaic.TcCoe Idealize.SL.Sem Idealize.ShloMosaic.Tactic
open Cert.KernelIdeal
open Idealize.ShloMosaic.Pipeline (Dat)

variable {F : FTy → Type} [FloatOps F]
variable (V : (c : Dev nD) → (b : Ref sig .tc) → Buf (Elt F) ((c : Thread nD τ).loc b))

theorem lt0 (t : Fin cfg0.N) : t.val < 100 := lt_of_lt_of_eq t.isLt N_0
theorem lt1 (t : Fin cfg1.N) : t.val < 50 := lt_of_lt_of_eq t.isLt N_1

/-! ## The first call -/

theorem place0 : ∀ t : Fin cfg0.N, win0_0.index t = ![t.val / 2, t.val % 2, 0] ∧ win0_1.index t = ![0, 0] ∧ win0_2.index t = ![0, 0]
    ∧ win0_3.index t = ![0, 0] ∧ win0_4.index t = ![0, 0] ∧ win0_5.index t = ![t.val / 2, t.val % 2, 0] :=
  (by decide +kernel : ∀ t : Fin grid0.N, _)

theorem iblk0_0_apply (c : Dev nD) (t : Fin cfg0.N) (b : Fin 1024) (i : Fin 128) :
    iblk0 V c 0 t (ix3 0 b i) = V c main_v0 (ix3 (⟨t.val / 2, by have := lt0 t; omega⟩ : Fin 50) (⟨t.val % 2 * 1024 + b.val, by omega⟩ : Fin 2048) i) := by
  blk_ext [iblk0, place0 t]

theorem iblk0_1_eq (c : Dev nD) (t : Fin cfg0.N) : iblk0 V c 1 t = V c main_arg2 := by
  blk_ext! [iblk0, place0 t]
theorem iblk0_2_eq (c : Dev nD) (t : Fin cfg0.N) : iblk0 V c 2 t = V c main_v1 := by
  blk_ext! [iblk0, place0 t]
theorem iblk0_3_eq (c : Dev nD) (t : Fin cfg0.N) : iblk0 V c 3 t = V c main_arg4 := by
  blk_ext! [iblk0, place0 t]
theorem iblk0_4_eq (c : Dev nD) (t : Fin cfg0.N) : iblk0 V c 4 t = V c main_v2 := by
  blk_ext! [iblk0, place0 t]

/-! ## The second call -/

theorem place1 : ∀ t : Fin cfg1.N, win1_0.index t = ![0] ∧ win1_1.index t = ![0] ∧ win1_2.index t = ![t.val, 0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![0, 0] ∧ win1_13.index t = ![0, 0] :=
  (by decide +kernel : ∀ t : Fin grid1.N, _)

theorem iblk1_0_eq (c : Dev nD) (t : Fin cfg1.N) : iblk1 V c 0 t = V c main_v18 := by
  blk_ext! [iblk1, place1 t]
theorem iblk1_1_eq (c : Dev nD) (t : Fin cfg1.N) : iblk1 V c 1 t = V c main_v24 := by
  blk_ext! [iblk1, place1 t]
theorem iblk1_2_apply (c : Dev nD) (t : Fin cfg1.N) (j : Fin 64) (b : Fin 2048) :
    iblk1 V c 2 t (ix3 0 j b) = V c main_v4 (ix3 (⟨t.val, lt1 t⟩ : Fin 50) j b) := by
  blk_ext [iblk1, place1 t]
theorem iblk1_3_eq (c : Dev nD) (t : Fin cfg1.N) : iblk1 V c 3 t = V c main_v25 := by
  blk_ext! [iblk1, place1 t]
theorem iblk1_4_eq (c : Dev nD) (t : Fin cfg1.N) : iblk1 V c 4 t = V c main_v26 := by
  blk_ext! [iblk1, place1 t]
theorem iblk1_5_eq (c : Dev nD) (t : Fin cfg1.N) : iblk1 V c 5 t = V c main_v6 := by
  blk_ext! [iblk1, place1 t]
theorem iblk1_6_eq (c : Dev nD) (t : Fin cfg1.N) : iblk1 V c 6 t = V c main_v8 := by
  blk_ext! [iblk1, place1 t]
theorem iblk1_7_eq (c : Dev nD) (t : Fin cfg1.N) : iblk1 V c 7 t = V c main_v27 := by
  blk_ext! [iblk1, place1 t]
theorem iblk1_8_eq (c : Dev nD) (t : Fin cfg1.N) : iblk1 V c 8 t = V c main_v28 := by
  blk_ext! [iblk1, place1 t]
theorem iblk1_9_eq (c : Dev nD) (t : Fin cfg1.N) : iblk1 V c 9 t = V c main_v10 := by
  blk_ext! [iblk1, place1 t]
theorem iblk1_10_eq (c : Dev nD) (t : Fin cfg1.N) : iblk1 V c 10 t = V c main_v29 := by
  blk_ext! [iblk1, place1 t]
theorem iblk1_11_eq (c : Dev nD) (t : Fin cfg1.N) : iblk1 V c 11 t = V c main_v12 := by
  blk_ext! [iblk1, place1 t]

/-! ## What the first call leaves -/

theorem apart0 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

/-- Row `1024 p + b` of page `k` of the features is row `b` of what grid point `2 k + p` stored. -/
theorem resZ_apply (m : (ℓ : Loc nD τ sig) → Buf (Elt F) ℓ) (c : Dev nD) (t : Fin cfg0.N) (b : Fin 1024) (j : Fin 64) :
    resZ m c (ix3 (⟨t.val / 2, by have := lt0 t; omega⟩ : Fin 50) (⟨t.val % 2 * 1024 + b.val, by omega⟩ : Fin 2048) j)
      = k0_pay1 (iblk0 (entA m) c 0 t) (iblk0 (entA m) c 1 t) (iblk0 (entA m) c 2 t) (iblk0 (entA m) c 3 t) (iblk0 (entA m) c 4 t) (ix3 0 b j) := by
  have h := congrFun ((dat0 (entA m) c).read_blk_arrAt_eq_flushed 5 apart0 cfg0.N t t.isLt (flush0_5 t)) (ix3 0 b j)
  refine Eq.trans ?_ (h.trans ?_)
  · unfold resZ; blk_ext [place0 t]
  · show (cfg0.win 5).cut (grid0.coords t) ((dat0 (entA m) c).after 5 t) (ix3 0 b j) = _
    blk_ext [place0 t]

/-! ## What the second call leaves -/

theorem apart1_12 : ∀ t t' : Fin cfg1.N, (cfg1.win 12).flush t = true → (cfg1.win 12).flush t' = true → t ≠ t' →
    Disjoint ((cfg1.win 12).blk t).view.set ((cfg1.win 12).blk t').view.set := fun t t' h h' hne => by
  have h1 := (flush1_12 t).mp h; have h2 := (flush1_12 t').mp h'
  have := lt1 t; have := lt1 t'
  exact absurd (Fin.ext (by omega)) hne

theorem apart1_13 : ∀ t t' : Fin cfg1.N, (cfg1.win 13).flush t = true → (cfg1.win 13).flush t' = true → t ≠ t' →
    Disjoint ((cfg1.win 13).blk t).view.set ((cfg1.win 13).blk t').view.set := fun t t' h h' hne => by
  have h1 := (flush1_13 t).mp h; have h2 := (flush1_13 t').mp h'
  have := lt1 t; have := lt1 t'
  exact absurd (Fin.ext (by omega)) hne

theorem resL_apply (m : (ℓ : Loc nD τ sig) → Buf (Elt F) ℓ) (c : Dev nD) (t : Fin cfg1.N) (ht : t.val = 49) :
    resL m c (ix2 0 0) = lossAt (entB m) c t (ix2 0 0) := by
  have h := congrFun ((dat1 (entB m) c).read_blk_arrAt_eq_flushed 12 apart1_12 cfg1.N t t.isLt ((flush1_12 t).mpr (by omega))) (ix2 0 0)
  refine Eq.trans ?_ (h.trans ?_)
  · unfold resL; blk_ext [place1 t]
  · show (cfg1.win 12).cut (grid1.coords t) ((dat1 (entB m) c).after 12 t) (ix2 0 0) = _
    blk_ext [place1 t]

theorem resC_apply (m : (ℓ : Loc nD τ sig) → Buf (Elt F) ℓ) (c : Dev nD) (t : Fin cfg1.N) (ht : t.val = 49) :
    resC m c (ix2 0 0) = accAt (entB m) c t (ix2 0 0) := by
  have h := congrFun ((dat1 (entB m) c).read_blk_arrAt_eq_flushed 13 apart1_13 cfg1.N t t.isLt ((flush1_13 t).mpr (by omega))) (ix2 0 0)
  refine Eq.trans ?_ (h.trans ?_)
  · unfold resC; blk_ext [place1 t]
  · show (cfg1.win 13).cut (grid1.coords t) ((dat1 (entB m) c).after 13 t) (ix2 0 0) = _
    blk_ext [place1 t]

end Cert.KernelIdeal.Gen

end
-- ==== Proof.AlgHost.lean ====
/- The arrays the two calls are given, at an index, from the arguments; and the features the first call leaves, equal to the reference's. -/
module

public import proofs.«01_k».proof.Proof.AlgBlocks
public import proofs.«01_k».proof.Proof.RefState

@[expose] public section

set_option maxRecDepth 16384

noncomputable section

namespace Cert.Alg

open Idealize.ShloMosaic Idealize.ShloMosaic.TcCoe Idealize.ShloMosaic.Tactic
open Cert.KernelIdeal.Gen
open Cert.KernelIdeal
open Cert.ReferenceIdeal.Gen (zRef zAt xOf)

variable (m : (ℓ : Loc nD τ sig) → Buf (Elt Ideal) ℓ) (c : Dev nD)

/-! ## Given to the first call -/

theorem ent_v0 (k : Fin 50) (b : Fin 2048) (i : Fin 128) : entA m c main_v0 (ix3 k b i) = m ((c.tc : Thread nD τ).loc main_arg0) (ix3 b k i) := by
  unfold entA
  after_reads_simp
  pointwise

theorem ent_v1 (j : Fin 256) : entA m c main_v1 (ix2 0 j) = m ((c.tc : Thread nD τ).loc main_arg3) (ix1 j) := by
  unfold entA
  after_reads_simp
  pointwise

theorem ent_v2 (j : Fin 64) : entA m c main_v2 (ix2 0 j) = m ((c.tc : Thread nD τ).loc main_arg5) (ix1 j) := by
  unfold entA
  after_reads_simp
  pointwise

theorem ent_arg2 : entA m c main_arg2 = m ((c.tc : Thread nD τ).loc main_arg2) := V1_of m c main_arg2 (by decide +kernel)
theorem ent_arg4 : entA m c main_arg4 = m ((c.tc : Thread nD τ).loc main_arg4) := V1_of m c main_arg4 (by decide +kernel)

/-! ## Given to the second call -/

theorem mid_v4 (k : Fin 50) (j : Fin 64) (b : Fin 2048) : entB m c main_v4 (ix3 k j b) = resZ m c (ix3 k b j) := by
  unfold entB midV
  after_reads_simp
  pointwise
  rfl

theorem mid_v6 (j : Fin 64) (b : Fin 2048) : entB m c main_v6 (ix2 j b) = m ((c.tc : Thread nD τ).loc main_arg8) (ix1 j) := by
  unfold entB midV
  after_reads_simp
  pointwise
  rfl

theorem mid_v8 (j : Fin 64) (b : Fin 2048) : entB m c main_v8 (ix2 j b) = m ((c.tc : Thread nD τ).loc main_arg9) (ix1 j) := by
  unfold entB midV
  after_reads_simp
  pointwise
  rfl

theorem mid_v10 (j : Fin 256) (b : Fin 2048) : entB m c main_v10 (ix2 j b) = m ((c.tc : Thread nD τ).loc main_arg11) (ix1 j) := by
  unfold entB midV
  after_reads_simp
  pointwise
  rfl

theorem mid_v12 (j : Fin 64) (b : Fin 2048) : entB m c main_v12 (ix2 j b) = m ((c.tc : Thread nD τ).loc main_arg13) (ix1 j) := by
  unfold entB midV
  after_reads_simp
  pointwise
  rfl

theorem mid_v25 (i : Fin 64) (j : Fin 64) : entB m c main_v25 (ix2 j i) = m ((c.tc : Thread nD τ).loc main_arg6) (ix2 i j) := by
  unfold entB midV
  after_reads_simp
  pointwise
  rfl

theorem mid_v26 (i : Fin 64) (j : Fin 64) : entB m c main_v26 (ix2 j i) = m ((c.tc : Thread nD τ).loc main_arg7) (ix2 i j) := by
  unfold entB midV
  after_reads_simp
  pointwise
  rfl

theorem mid_v27 (i : Fin 2048) (j : Fin 64) : entB m c main_v27 (ix2 j i) = m ((c.tc : Thread nD τ).loc main_arg1) (ix2 i j) := by
  unfold entB midV
  after_reads_simp
  pointwise
  rfl

theorem mid_v28 (i : Fin 64) (j : Fin 256) : entB m c main_v28 (ix2 j i) = m ((c.tc : Thread nD τ).loc main_arg10) (ix2 i j) := by
  unfold entB midV
  after_reads_simp
  pointwise
  rfl

theorem mid_v29 (i : Fin 256) (j : Fin 64) : entB m c main_v29 (ix2 j i) = m ((c.tc : Thread nD τ).loc main_arg12) (ix2 i j) := by
  unfold entB midV
  after_reads_simp
  pointwise
  rfl

theorem step_real (k : Fin 50) : (FloatOps.sitofp (F := Ideal) .f32 (BitVec.ofNat 32 k.val) : EReal) = ((k.val : ℝ) : EReal) := by
  show ((((BitVec.ofNat 32 k.val).toInt : ℤ) : ℝ) : EReal) = _
  rw [(by decide +kernel : ∀ k : Fin 50, (BitVec.ofNat 32 k.val).toInt = (k.val : ℤ)) k, Int.cast_natCast]

/-- The first table: half the decay's power to minus the step. -/
theorem mid_v18 (k : Fin 50) : (entB m c main_v18 (ix1 k) : EReal) = ((1 / 2 * (lam ^ k.val)⁻¹ : ℝ) : EReal) := by
  unfold entB midV
  after_reads_simp
  pointwise
  rw [step_real, word_half, word_lam, ← EReal.coe_neg]
  show ((1 / 2 : ℝ) : EReal) * ((Real.rpow lam (-(k.val : ℝ)) : ℝ) : EReal) = _
  rw [← EReal.coe_mul]
  show ((1 / 2 * lam ^ (-(k.val : ℝ)) : ℝ) : EReal) = _
  rw [Real.rpow_neg lam_pos.le, Real.rpow_natCast]

/-- The second table: twice the decay's power to twice the step. -/
theorem mid_v24 (k : Fin 50) : (entB m c main_v24 (ix1 k) : EReal) = ((2 * (lam ^ k.val) ^ 2 : ℝ) : EReal) := by
  unfold entB midV
  after_reads_simp
  pointwise
  rw [step_real, word_two, word_lam, ← EReal.coe_mul]
  show ((2 : ℝ) : EReal) * ((Real.rpow lam (2 * (k.val : ℝ)) : ℝ) : EReal) = _
  rw [← EReal.coe_mul]
  show ((2 * lam ^ (2 * (k.val : ℝ)) : ℝ) : EReal) = _
  rw [mul_comm (2 : ℝ) (k.val : ℝ), Real.rpow_mul lam_pos.le, Real.rpow_natCast, Real.rpow_two]

/-! ## The features -/

/-- Where the reference's slice of step `k` starts: at page `k`. -/
theorem start_eq : ∀ k : Fin 50,
    Host.clampedStart Cert.ReferenceIdeal.S50x2048x128 Cert.ReferenceIdeal.S1x2048x128 rfl
      (fun a => BitVec.toInt ((![fun _ => Scf.iv 0#32 1#32 k.val, constantI Cert.ReferenceIdeal.S_ 32 0#32, constantI Cert.ReferenceIdeal.S_ 32 0#32] :
        Fin 3 → (⟨Cert.ReferenceIdeal.S_, .i32⟩ : BufTy).Contents (Elt Ideal)) a (Shape.Idx.first Cert.ReferenceIdeal.Gen.h_S_)))
      = ![k.val, 0, 0] := by
  decide +kernel

/-- The reference's input rows at step `k`. -/
theorem xOf_apply (X : Vec Ideal Cert.ReferenceIdeal.S50x2048x128 .f32) (k : Fin 50) (b : Fin 2048) (i : Fin 128) :
    xOf X (fun _ => Scf.iv 0#32 1#32 k.val) (ix2 b i) = X (ix3 k b i) := by
  pointwise [xOf]
  refine congrArg X (funext fun a => Fin.ext ?_)
  have h := congrFun (start_eq k)
  fin_cases a
  · exact h 0
  · exact (congrArg (· + b.val) (h 1)).trans (Nat.zero_add _)
  · exact (congrArg (· + i.val) (h 2)).trans (Nat.zero_add _)

/-- The features the first call leaves are the reference's, step by step. -/
theorem resZ_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (k : Fin 50) (b : Fin 2048) (j : Fin 64) : resZ m c (ix3 k b j) = zAt m' c k.val (ix2 b j) := by
  have hN : 2 * k.val + b.val / 1024 < cfg0.N := lt_of_lt_of_eq (by omega) N_0.symm
  have hk : (⟨(2 * k.val + b.val / 1024) / 2, by omega⟩ : Fin 50) = k := Fin.ext (by show (2 * k.val + b.val / 1024) / 2 = k.val; omega)
  have hb : (⟨(2 * k.val + b.val / 1024) % 2 * 1024 + b.val % 1024, by omega⟩ : Fin 2048) = b :=
    Fin.ext (by show (2 * k.val + b.val / 1024) % 2 * 1024 + b.val % 1024 = b.val; omega)
  have h := resZ_apply m c ⟨2 * k.val + b.val / 1024, hN⟩ ⟨b.val % 1024, by omega⟩ j
  rw [hk, hb] at h
  rw [h]
  refine feat_eq _ _ _ _ _ _ _ _ _ _ _ b ?_ ?_ ?_ ?_ ?_ j
  · intro i
    rw [iblk0_0_apply, hk, hb, ent_v0, xOf_apply]
    pointwise
    rw [h0]
  · intro i j; rw [iblk0_1_eq, ent_arg2, h2]
  · intro j; rw [iblk0_2_eq, ent_v1, h3]
  · intro i j; rw [iblk0_3_eq, ent_arg4, h4]
  · intro j; rw [iblk0_4_eq, ent_v2, h5]

end Cert.Alg

end
-- ==== Proof.AlgFinal.lean ====
/- The kernel's results are the reference's. -/
module

public import proofs.«01_k».proof.Proof.AlgHost
public import proofs.«01_k».proof.Proof.Frame
public import proofs.«01_k».proof.Proof.RefFrame

@[expose] public section

set_option maxRecDepth 16384

noncomputable section

namespace Cert.Alg

open Idealize.ShloMosaic Idealize.ShloMosaic.TcCoe Idealize.ShloMosaic.Tactic
open Idealize.SL Idealize.SL.Sem
open Cert.KernelIdeal.Gen
open Cert.KernelIdeal
open Cert.ReferenceIdeal.Gen (zRef zAt xOf stepRef stRef gRef lossRef accRef logitsAt)

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

/-- The two programs are given the same arguments. -/
structure Agree : Prop where
  a0 : m' ((c.tc : Thread Cert.ReferenceIdeal.nD Cert.ReferenceIdeal.τ).loc Cert.ReferenceIdeal.main_arg0) = m ((c.tc : Thread nD τ).loc main_arg0)
  a1 : m' ((c.tc : Thread Cert.ReferenceIdeal.nD Cert.ReferenceIdeal.τ).loc Cert.ReferenceIdeal.main_arg1) = m ((c.tc : Thread nD τ).loc main_arg1)
  a2 : m' ((c.tc : Thread Cert.ReferenceIdeal.nD Cert.ReferenceIdeal.τ).loc Cert.ReferenceIdeal.main_arg2) = m ((c.tc : Thread nD τ).loc main_arg2)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a12 : m' ((c.tc : Thread Cert.ReferenceIdeal.nD Cert.ReferenceIdeal.τ).loc Cert.ReferenceIdeal.main_arg12) = m ((c.tc : Thread nD τ).loc main_arg12)
  a13 : m' ((c.tc : Thread Cert.ReferenceIdeal.nD Cert.ReferenceIdeal.τ).loc Cert.ReferenceIdeal.main_arg13) = m ((c.tc : Thread nD τ).loc main_arg13)

theorem point_val : ∀ t : Fin cfg1.N, ((grid1.coords t) 0).val = t.val :=
  (by decide +kernel : ∀ t : Fin grid1.N, ((grid1.coords t) 0).val = t.val)

theorem atOf_point (x : Vec Ideal S50 .f32) (t : Fin cfg1.N) : atOf (grid1.coords t) x = x (ix1 ⟨t.val, lt1 t⟩) := by
  unfold atOf
  exact congrArg (fun k => x (ix1 k)) (Fin.ext (point_val t))

variable {m m' c} (h : Agree m m' c)
include h

theorem feat_at (t : Fin cfg1.N) (j : Fin 64) (b : Fin 2048) :
    iblk1 (entB m) c 2 t (ix3 0 j b) = zAt m' c t.val (ix2 b j) := by
  rw [iblk1_2_apply, mid_v4]
  exact resZ_eq m c m' h.a0 h.a2 h.a3 h.a4 h.a5 ⟨t.val, lt1 t⟩ b j

/-- Before every step the kernel holds the reference's state, and its fast weights up to the decay's power. -/
theorem same_at : ∀ k ≤ 50, Same (lam ^ k) (stAt (entB m) c k).1 (stAt (entB m) c k).2 (stRef m' c k)
  | 0, _ => {
      hid := fun j b => by
        show k1_pay113 (F := Ideal) (ix2 j b) = _
        unfold stRef
        pointwise [k1_pay113]
      fast := fun b i j => by
        show (_ : EReal) = _ * zerosA (F := Ideal) (ix3 i j b)
        unfold stRef
        pointwise [zerosA]
        simp [Ideal.ofBits, Ideal.ieee] }
  | k + 1, hk => by
    have hN : k < cfg1.N := lt_of_lt_of_eq (by omega) N_1.symm
    have ih := same_at k (by omega)
    have e := stAt_succ (entB m) c ⟨k, hN⟩
    rw [show stRef m' c (k + 1) = stepRef (zAt m' c k) _ _ _ _ (stRef m' c k) from rfl, pow_succ, e]
    refine step_same (pow_pos lam_pos k) ih ?_ ?_ (feat_at h ⟨k, hN⟩) ?_ ?_ ?_ ?_
    · rw [atOf_point, iblk1_0_eq]; exact mid_v18 m c ⟨k, by omega⟩
    · rw [atOf_point, iblk1_1_eq]; exact mid_v24 m c ⟨k, by omega⟩
    · intro i j; rw [iblk1_3_eq, mid_v25, h.a6]
    · intro i j; rw [iblk1_4_eq, mid_v26, h.a7]
    · intro j b; rw [iblk1_5_eq, mid_v6, h.a8]
    · intro j b; rw [iblk1_6_eq, mid_v8, h.a9]

/-- The rows the last point scores are the reference's last state. -/
theorem last_rows (t : Fin cfg1.N) (ht : t.val = 49) (j : Fin 64) (b : Fin 2048) : hsAt (entB m) c t (ix2 j b) = (stRef m' c 50).1 (ix2 b j) := by
  have ih := same_at h t.val (by omega)
  rw [show stRef m' c 50 = stepRef (zAt m' c t.val) _ _ _ _ (stRef m' c t.val) from by rw [ht]; rfl]
  unfold hsAt
  refine hs_eq (pow_pos lam_pos t.val) ih ?_ ?_ (feat_at h t) ?_ ?_ ?_ ?_ j b
  · rw [atOf_point, iblk1_0_eq]; exact mid_v18 m c ⟨t.val, lt1 t⟩
  · rw [atOf_point, iblk1_1_eq]; exact mid_v24 m c ⟨t.val, lt1 t⟩
  · intro i j; rw [iblk1_3_eq, mid_v25, h.a6]
  · intro i j; rw [iblk1_4_eq, mid_v26, h.a7]
  · intro j b; rw [iblk1_5_eq, mid_v6, h.a8]
  · intro j b; rw [iblk1_6_eq, mid_v8, h.a9]

theorem logits_at (t : Fin cfg1.N) (ht : t.val = 49) (j : Fin 64) (b : Fin 2048) :
    k1_pay108 (F := Ideal) (hsAt (entB m) c t) (iblk1 (entB m) c 8 t) (iblk1 (entB m) c 9 t) (iblk1 (entB m) c 10 t) (iblk1 (entB m) c 11 t) (ix2 j b)
      = logitsAt m' c (ix2 b j) := by
  unfold logitsAt
  refine logits_eq (last_rows h t ht) ?_ ?_ ?_ ?_ j b
  · intro i j; rw [iblk1_8_eq, mid_v28, h.a10]
  · intro j b; rw [iblk1_9_eq, mid_v10, h.a11]
  · intro i j; rw [iblk1_10_eq, mid_v29, h.a12]
  · intro j b; rw [iblk1_11_eq, mid_v12, h.a13]

theorem targets_at (t : Fin cfg1.N) (j : Fin 64) (b : Fin 2048) :
    iblk1 (entB m) c 7 t (ix2 j b) = m' ((c.tc : Thread Cert.ReferenceIdeal.nD Cert.ReferenceIdeal.τ).loc Cert.ReferenceIdeal.main_arg1) (ix2 b j) := by
  rw [iblk1_7_eq, mid_v27, h.a1]

theorem loss_out (i : Cert.ReferenceIdeal.S_.Idx) : resL m c (ix2 0 0) = lossRef (m' ((c.tc : Thread Cert.ReferenceIdeal.nD Cert.ReferenceIdeal.τ).loc Cert.ReferenceIdeal.main_arg1)) (logitsAt m' c) i := by
  have hN : 49 < cfg1.N := lt_of_lt_of_eq (by omega) N_1.symm
  rw [resL_apply m c ⟨49, hN⟩ rfl]
  exact loss_eq _ (logits_at h ⟨49, hN⟩ rfl) (targets_at h ⟨49, hN⟩) i

theorem acc_out (i : Cert.ReferenceIdeal.S_.Idx) : resC m c (ix2 0 0) = accRef (m' ((c.tc : Thread Cert.ReferenceIdeal.nD Cert.ReferenceIdeal.τ).loc Cert.ReferenceIdeal.main_arg1)) (logitsAt m' c) i := by
  have hN : 49 < cfg1.N := lt_of_lt_of_eq (by omega) N_1.symm
  rw [resC_apply m c ⟨49, hN⟩ rfl]
  exact acc_eq _ (logits_at h ⟨49, hN⟩ rfl) (targets_at h ⟨49, hN⟩) i

omit h in
theorem V5_main_v31 (i : S_.Idx) : V5 m (outs m) c main_v31 i = resL m c (ix2 0 0) := by
  after_reads_simp
  rw [← outs_l m c]
  pointwise
  rfl

omit h in
theorem V5_main_v32 (i : S_.Idx) : V5 m (outs m) c main_v32 i = resC m c (ix2 0 0) := by
  after_reads_simp
  rw [← outs_c m c]
  pointwise
  rfl

omit h in
/-- The results of the two programs are equal, over every argument. -/
theorem algebraic : Cert.algebraic_KernelIdeal_ReferenceIdeal (hKernelIdeal := Cert.KernelIdeal.Gen.facts) (hReferenceIdeal := Cert.ReferenceIdeal.Gen.facts) :=
  fun m g m' g' _ hA => by
  have hB : ∀ c : Dev nD, Agree m m' c := fun c => by
    obtain ⟨a0, a1, a2, a3, a4, a5, a6, a7, a8, a9, a10, a11, a12, a13⟩ := hA c
    exact ⟨a0, a1, a2, a3, a4, a5, a6, a7, a8, a9, a10, a11, a12, a13⟩
  refine ⟨fun c => V5 m (outs m) c main_v31, fun c => V5 m (outs m) c main_v32,
    (run_all (F := Ideal) m g).mono fun r h c =>
      ⟨h.1 c main_v31 (mem_uc main_v31 rfl), h.1 c main_v32 (mem_uc main_v32 rfl),
        (h.1 c main_arg0 (mem_uc main_arg0 rfl)).trans (V5_main_arg0 m (outs m) c),
        (h.1 c main_arg1 (mem_uc main_arg1 rfl)).trans (V5_main_arg1 m (outs m) c),
        (h.1 c main_arg2 (mem_uc main_arg2 rfl)).trans (V5_main_arg2 m (outs m) c),
        (h.1 c main_arg3 (mem_uc main_arg3 rfl)).trans (V5_main_arg3 m (outs m) c),
        (h.1 c main_arg4 (mem_uc main_arg4 rfl)).trans (V5_main_arg4 m (outs m) c),
        (h.1 c main_arg5 (mem_uc main_arg5 rfl)).trans (V5_main_arg5 m (outs m) c),
        (h.1 c main_arg6 (mem_uc main_arg6 rfl)).trans (V5_main_arg6 m (outs m) c),
        (h.1 c main_arg7 (mem_uc main_arg7 rfl)).trans (V5_main_arg7 m (outs m) c),
        (h.1 c main_arg8 (mem_uc main_arg8 rfl)).trans (V5_main_arg8 m (outs m) c),
        (h.1 c main_arg9 (mem_uc main_arg9 rfl)).trans (V5_main_arg9 m (outs m) c),
        (h.1 c main_arg10 (mem_uc main_arg10 rfl)).trans (V5_main_arg10 m (outs m) c),
        (h.1 c main_arg11 (mem_uc main_arg11 rfl)).trans (V5_main_arg11 m (outs m) c),
        (h.1 c main_arg12 (mem_uc main_arg12 rfl)).trans (V5_main_arg12 m (outs m) c),
        (h.1 c main_arg13 (mem_uc main_arg13 rfl)).trans (V5_main_arg13 m (outs m) c)⟩,
    (Cert.ReferenceIdeal.Gen.run_fold (F := Ideal) m' g').mono fun r h c =>
      ⟨(h c Cert.ReferenceIdeal.main_v18 rfl).trans ((Cert.ReferenceIdeal.Gen.final_v18 m' c).trans (funext fun i => ((V5_main_v31 i).trans (loss_out (hB c) i)).symm)),
        (h c Cert.ReferenceIdeal.main_v24 rfl).trans ((Cert.ReferenceIdeal.Gen.final_v24 m' c).trans (funext fun i => ((V5_main_v32 i).trans (acc_out (hB c) i)).symm)),
        (h c Cert.ReferenceIdeal.main_arg0 rfl).trans (Cert.ReferenceIdeal.Gen.final_args m' c _ (by decide)),
        (h c Cert.ReferenceIdeal.main_arg1 rfl).trans (Cert.ReferenceIdeal.Gen.final_args m' c _ (by decide)),
        (h c Cert.ReferenceIdeal.main_arg2 rfl).trans (Cert.ReferenceIdeal.Gen.final_args m' c _ (by decide)),
        (h c Cert.ReferenceIdeal.main_arg3 rfl).trans (Cert.ReferenceIdeal.Gen.final_args m' c _ (by decide)),
        (h c Cert.ReferenceIdeal.main_arg4 rfl).trans (Cert.ReferenceIdeal.Gen.final_args m' c _ (by decide)),
        (h c Cert.ReferenceIdeal.main_arg5 rfl).trans (Cert.ReferenceIdeal.Gen.final_args m' c _ (by decide)),
        (h c Cert.ReferenceIdeal.main_arg6 rfl).trans (Cert.ReferenceIdeal.Gen.final_args m' c _ (by decide)),
        (h c Cert.ReferenceIdeal.main_arg7 rfl).trans (Cert.ReferenceIdeal.Gen.final_args m' c _ (by decide)),
        (h c Cert.ReferenceIdeal.main_arg8 rfl).trans (Cert.ReferenceIdeal.Gen.final_args m' c _ (by decide)),
        (h c Cert.ReferenceIdeal.main_arg9 rfl).trans (Cert.ReferenceIdeal.Gen.final_args m' c _ (by decide)),
        (h c Cert.ReferenceIdeal.main_arg10 rfl).trans (Cert.ReferenceIdeal.Gen.final_args m' c _ (by decide)),
        (h c Cert.ReferenceIdeal.main_arg11 rfl).trans (Cert.ReferenceIdeal.Gen.final_args m' c _ (by decide)),
        (h c Cert.ReferenceIdeal.main_arg12 rfl).trans (Cert.ReferenceIdeal.Gen.final_args m' c _ (by decide)),
        (h c Cert.ReferenceIdeal.main_arg13 rfl).trans (Cert.ReferenceIdeal.Gen.final_args m' c _ (by decide))⟩⟩

end Cert.Alg

end
-- ==== Proof.lean ====
/- The claim: the three frames, each from its program's run, what the idealization keeps, and the results' equality. -/
module

public import proofs.«01_k».proof.Defs
public import proofs.«01_k».proof.Proof.Frame
public import proofs.«01_k».proof.Proof.KFrame
public import proofs.«01_k».proof.Proof.RefFrame
public import proofs.«01_k».proof.Proof.AlgFinal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel.Gen.frame, Cert.KernelIdeal.Gen.frame, Cert.ReferenceIdeal.Gen.frame, trivial, Cert.Alg.algebraic⟩

end Cert.Proof

end
